-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S128x1 : Shape := ⟨2, ![128, 1]⟩
abbrev S128 : Shape := ⟨1, ![128]⟩
abbrev S128x7680 : Shape := ⟨2, ![128, 7680]⟩

abbrev nBuf : Space → Nat
  | .hbm => 3
  | .vmem => 5
  | .smem => 0
  | _ => 0

abbrev bufTy : (tb : Table) → Fin (tcTables nBuf tb) → BufTy
  | .hbm, ⟨0, _⟩ => ⟨S128x100000, .f32⟩
  | .hbm, ⟨1, _⟩ => ⟨S128x1, .i32⟩
  | .hbm, ⟨2, _⟩ => ⟨S128, .i32⟩
  | .local _ .vmem, ⟨0, _⟩ => ⟨S128x7680, .f32⟩
  | .local _ .vmem, ⟨1, _⟩ => ⟨S128x7680, .f32⟩
  | .local _ .vmem, ⟨2, _⟩ => ⟨S128x1, .i32⟩
  | .local _ .vmem, ⟨3, _⟩ => ⟨S128x1, .f32⟩
  | .local _ .vmem, ⟨4, _⟩ => ⟨S128x1, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![14], ![false]⟩

def k0_cond3 (i : grid0.Coords) : BitVec 1 :=
  let arg0 : BitVec 32 := BitVec.ofNat 32 (i 0).val
  let c13_i32_46 : BitVec 32 := 13#32
  let v209 : BitVec 1 := Scalar.cmpi .eq arg0 c13_i32_46
  let v210 : BitVec 32 := Scalar.extui v209
  let c0_i32_47 : BitVec 32 := 0#32
  let v211 : BitVec 1 := Scalar.cmpi .ne v210 c0_i32_47
  v211

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x7680 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S128 : Shape := ⟨1, ![128]⟩

abbrev nBuf : Space → Nat
  | .hbm => 275
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S128x100000, .i64⟩
  | 16 => ⟨S128x100000, .i64⟩
  | 17 => ⟨S_, .i64⟩
  | 18 => ⟨S128x100000, .i64⟩
  | 19 => ⟨S128x100000, .i64⟩
  | 20 => ⟨S_, .i64⟩
  | 21 => ⟨S128x100000, .i64⟩
  | 22 => ⟨S128x100000, .i64⟩
  | 23 => ⟨S128x100000, .i64⟩
  | 24 => ⟨S_, .i64⟩
  | 25 => ⟨S128x100000, .i64⟩
  | 26 => ⟨S128x100000, .i64⟩
  | 27 => ⟨S128x100000, .i32⟩
  | 28 => ⟨S128x100000, .i32⟩
  | 29 => ⟨S_, .i32⟩
  | 30 => ⟨S_, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S_, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S_, .i32⟩
  | 50 => ⟨S128x100000, .i32⟩
  | 51 => ⟨S128x100000, .i32⟩
  | 52 => ⟨S128x100000, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S_, .i32⟩
  | 59 => ⟨S128x100000, .i32⟩
  | 60 => ⟨S128x100000, .i32⟩
  | 61 => ⟨S128x100000, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S128x100000, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S128x100000, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S128x100000, .i32⟩
  | 123 => ⟨S_, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_1 (i : Nat) : BufTy := match i % 128 with
  | 0 => ⟨S128x100000, .i32⟩
  | 1 => ⟨S128x100000, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S_, .i32⟩
  | 8 => ⟨S128x100000, .i32⟩
  | 9 => ⟨S128x100000, .i32⟩
  | 10 => ⟨S128x100000, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S_, .i32⟩
  | 17 => ⟨S128x100000, .i32⟩
  | 18 => ⟨S128x100000, .i32⟩
  | 19 => ⟨S128x100000, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S128x100000, .i32⟩
  | 29 => ⟨S128x100000, .i32⟩
  | 30 => ⟨S128x100000, .i32⟩
  | 31 => ⟨S128x100000, .i32⟩
  | 32 => ⟨S128x100000, .i32⟩
  | 33 => ⟨S128x100000, .i32⟩
  | 34 => ⟨S_, .i32⟩
  | 35 => ⟨S128x100000, .i32⟩
  | 36 => ⟨S128x100000, .i32⟩
  | 37 => ⟨S128x100000, .i32⟩
  | 38 => ⟨S_, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S128x100000, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S128x100000, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S128x100000, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S128x100000, .i32⟩
  | 81 => ⟨S_, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S128x100000, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S128x100000, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S128x100000, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S_, .i32⟩
  | 112 => ⟨S128x100000, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S128x100000, .i32⟩
  | 120 => ⟨S_, .i32⟩
  | 121 => ⟨S128x100000, .i32⟩
  | 122 => ⟨S128x100000, .i32⟩
  | 123 => ⟨S128x100000, .i32⟩
  | 124 => ⟨S_, .i32⟩
  | 125 => ⟨S128x100000, .i32⟩
  | 126 => ⟨S128x100000, .i32⟩
  | 127 => ⟨S_, .i32⟩
  | _ => ⟨S128x100000, .f32⟩

abbrev hbmTy0_2 (i : Nat) : BufTy := match i % 128 with
  | 0 => ⟨S128x100000, .i32⟩
  | 1 => ⟨S128x100000, .i32⟩
  | 2 => ⟨S128x100000, .f32⟩
  | 3 => ⟨S_, .f32⟩
  | 4 => ⟨S128x100000, .f32⟩
  | 5 => ⟨S128x100000, .f32⟩
  | 6 => ⟨S_, .f32⟩
  | 7 => ⟨S128x100000, .f32⟩
  | 8 => ⟨S128x100000, .f32⟩
  | 9 => ⟨S128x100000, .f32⟩
  | 10 => ⟨S128x100000, .f32⟩
  | 11 => ⟨S128x100000, .f32⟩
  | 12 => ⟨S128x100000, .f32⟩
  | 13 => ⟨S128x100000, .f32⟩
  | 14 => ⟨S128x100000, .i32⟩
  | 15 => ⟨S_, .f32⟩
  | 16 => ⟨S_, .i32⟩
  | 17 => ⟨S128, .f32⟩
  | 18 => ⟨S128, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_c_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_4 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_c_0 : Ref sig .tc := ⟨.hbm, 37, rfl⟩
abbrev main_call0_v7 : Ref sig .tc := ⟨.hbm, 38, rfl⟩
abbrev main_call0_v8 : Ref sig .tc := ⟨.hbm, 39, rfl⟩
abbrev main_call0_c_1 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_c_2 : Ref sig .tc := ⟨.hbm, 46, rfl⟩
abbrev main_call0_v14 : Ref sig .tc := ⟨.hbm, 47, rfl⟩
abbrev main_call0_v15 : Ref sig .tc := ⟨.hbm, 48, rfl⟩
abbrev main_call0_c_3 : Ref sig .tc := ⟨.hbm, 49, rfl⟩
abbrev main_call0_v16 : Ref sig .tc := ⟨.hbm, 50, rfl⟩
abbrev main_call0_v17 : Ref sig .tc := ⟨.hbm, 51, rfl⟩
abbrev main_call0_v18 : Ref sig .tc := ⟨.hbm, 52, rfl⟩
abbrev main_call0_v19 : Ref sig .tc := ⟨.hbm, 53, rfl⟩
abbrev main_call0_v20 : Ref sig .tc := ⟨.hbm, 54, rfl⟩
abbrev main_call0_c_4 : Ref sig .tc := ⟨.hbm, 55, rfl⟩
abbrev main_call0_v21 : Ref sig .tc := ⟨.hbm, 56, rfl⟩
abbrev main_call0_v22 : Ref sig .tc := ⟨.hbm, 57, rfl⟩
abbrev main_call0_c_5 : Ref sig .tc := ⟨.hbm, 58, rfl⟩
abbrev main_call0_v23 : Ref sig .tc := ⟨.hbm, 59, rfl⟩
abbrev main_call0_v24 : Ref sig .tc := ⟨.hbm, 60, rfl⟩
abbrev main_call0_v25 : Ref sig .tc := ⟨.hbm, 61, rfl⟩
abbrev main_call0_v26 : Ref sig .tc := ⟨.hbm, 62, rfl⟩
abbrev main_call0_v27 : Ref sig .tc := ⟨.hbm, 63, rfl⟩
abbrev main_call0_c_6 : Ref sig .tc := ⟨.hbm, 64, rfl⟩
abbrev main_call0_v28 : Ref sig .tc := ⟨.hbm, 65, rfl⟩
abbrev main_call0_v29 : Ref sig .tc := ⟨.hbm, 66, rfl⟩
abbrev main_call0_c_7 : Ref sig .tc := ⟨.hbm, 67, rfl⟩
abbrev main_call0_v30 : Ref sig .tc := ⟨.hbm, 68, rfl⟩
abbrev main_call0_v31 : Ref sig .tc := ⟨.hbm, 69, rfl⟩
abbrev main_call0_v32 : Ref sig .tc := ⟨.hbm, 70, rfl⟩
abbrev main_call0_v33 : Ref sig .tc := ⟨.hbm, 71, rfl⟩
abbrev main_call0_v34 : Ref sig .tc := ⟨.hbm, 72, rfl⟩
abbrev main_call0_v35 : Ref sig .tc := ⟨.hbm, 73, rfl⟩
abbrev main_call0_v36 : Ref sig .tc := ⟨.hbm, 74, rfl⟩
abbrev main_call0_v37 : Ref sig .tc := ⟨.hbm, 75, rfl⟩
abbrev main_call0_c_8 : Ref sig .tc := ⟨.hbm, 76, rfl⟩
abbrev main_call0_v38 : Ref sig .tc := ⟨.hbm, 77, rfl⟩
abbrev main_call0_v39 : Ref sig .tc := ⟨.hbm, 78, rfl⟩
abbrev main_call0_v40 : Ref sig .tc := ⟨.hbm, 79, rfl⟩
abbrev main_call0_c_9 : Ref sig .tc := ⟨.hbm, 80, rfl⟩
abbrev main_call0_v41 : Ref sig .tc := ⟨.hbm, 81, rfl⟩
abbrev main_call0_v42 : Ref sig .tc := ⟨.hbm, 82, rfl⟩
abbrev main_call0_c_10 : Ref sig .tc := ⟨.hbm, 83, rfl⟩
abbrev main_call0_v43 : Ref sig .tc := ⟨.hbm, 84, rfl⟩
abbrev main_call0_v44 : Ref sig .tc := ⟨.hbm, 85, rfl⟩
abbrev main_call0_v45 : Ref sig .tc := ⟨.hbm, 86, rfl⟩
abbrev main_call0_v46 : Ref sig .tc := ⟨.hbm, 87, rfl⟩
abbrev main_call0_v47 : Ref sig .tc := ⟨.hbm, 88, rfl⟩
abbrev main_call0_c_11 : Ref sig .tc := ⟨.hbm, 89, rfl⟩
abbrev main_call0_v48 : Ref sig .tc := ⟨.hbm, 90, rfl⟩
abbrev main_call0_v49 : Ref sig .tc := ⟨.hbm, 91, rfl⟩
abbrev main_call0_c_12 : Ref sig .tc := ⟨.hbm, 92, rfl⟩
abbrev main_call0_v50 : Ref sig .tc := ⟨.hbm, 93, rfl⟩
abbrev main_call0_v51 : Ref sig .tc := ⟨.hbm, 94, rfl⟩
abbrev main_call0_v52 : Ref sig .tc := ⟨.hbm, 95, rfl⟩
abbrev main_call0_v53 : Ref sig .tc := ⟨.hbm, 96, rfl⟩
abbrev main_call0_v54 : Ref sig .tc := ⟨.hbm, 97, rfl⟩
abbrev main_call0_c_13 : Ref sig .tc := ⟨.hbm, 98, rfl⟩
abbrev main_call0_v55 : Ref sig .tc := ⟨.hbm, 99, rfl⟩
abbrev main_call0_v56 : Ref sig .tc := ⟨.hbm, 100, rfl⟩
abbrev main_call0_c_14 : Ref sig .tc := ⟨.hbm, 101, rfl⟩
abbrev main_call0_v57 : Ref sig .tc := ⟨.hbm, 102, rfl⟩
abbrev main_call0_v58 : Ref sig .tc := ⟨.hbm, 103, rfl⟩
abbrev main_call0_v59 : Ref sig .tc := ⟨.hbm, 104, rfl⟩
abbrev main_call0_v60 : Ref sig .tc := ⟨.hbm, 105, rfl⟩
abbrev main_call0_v61 : Ref sig .tc := ⟨.hbm, 106, rfl⟩
abbrev main_call0_c_15 : Ref sig .tc := ⟨.hbm, 107, rfl⟩
abbrev main_call0_v62 : Ref sig .tc := ⟨.hbm, 108, rfl⟩
abbrev main_call0_v63 : Ref sig .tc := ⟨.hbm, 109, rfl⟩
abbrev main_call0_c_16 : Ref sig .tc := ⟨.hbm, 110, rfl⟩
abbrev main_call0_v64 : Ref sig .tc := ⟨.hbm, 111, rfl⟩
abbrev main_call0_v65 : Ref sig .tc := ⟨.hbm, 112, rfl⟩
abbrev main_call0_v66 : Ref sig .tc := ⟨.hbm, 113, rfl⟩
abbrev main_call0_v67 : Ref sig .tc := ⟨.hbm, 114, rfl⟩
abbrev main_call0_v68 : Ref sig .tc := ⟨.hbm, 115, rfl⟩
abbrev main_call0_v69 : Ref sig .tc := ⟨.hbm, 116, rfl⟩
abbrev main_call0_v70 : Ref sig .tc := ⟨.hbm, 117, rfl⟩
abbrev main_call0_v71 : Ref sig .tc := ⟨.hbm, 118, rfl⟩
abbrev main_call0_c_17 : Ref sig .tc := ⟨.hbm, 119, rfl⟩
abbrev main_call0_v72 : Ref sig .tc := ⟨.hbm, 120, rfl⟩
abbrev main_call0_v73 : Ref sig .tc := ⟨.hbm, 121, rfl⟩
abbrev main_call0_v74 : Ref sig .tc := ⟨.hbm, 122, rfl⟩
abbrev main_call0_c_18 : Ref sig .tc := ⟨.hbm, 123, rfl⟩
abbrev main_call0_v75 : Ref sig .tc := ⟨.hbm, 124, rfl⟩
abbrev main_call0_v76 : Ref sig .tc := ⟨.hbm, 125, rfl⟩
abbrev main_call0_c_19 : Ref sig .tc := ⟨.hbm, 126, rfl⟩
abbrev main_call0_v77 : Ref sig .tc := ⟨.hbm, 127, rfl⟩
abbrev main_call0_v78 : Ref sig .tc := ⟨.hbm, 128, rfl⟩
abbrev main_call0_v79 : Ref sig .tc := ⟨.hbm, 129, rfl⟩
abbrev main_call0_v80 : Ref sig .tc := ⟨.hbm, 130, rfl⟩
abbrev main_call0_v81 : Ref sig .tc := ⟨.hbm, 131, rfl⟩
abbrev main_call0_c_20 : Ref sig .tc := ⟨.hbm, 132, rfl⟩
abbrev main_call0_v82 : Ref sig .tc := ⟨.hbm, 133, rfl⟩
abbrev main_call0_v83 : Ref sig .tc := ⟨.hbm, 134, rfl⟩
abbrev main_call0_c_21 : Ref sig .tc := ⟨.hbm, 135, rfl⟩
abbrev main_call0_v84 : Ref sig .tc := ⟨.hbm, 136, rfl⟩
abbrev main_call0_v85 : Ref sig .tc := ⟨.hbm, 137, rfl⟩
abbrev main_call0_v86 : Ref sig .tc := ⟨.hbm, 138, rfl⟩
abbrev main_call0_v87 : Ref sig .tc := ⟨.hbm, 139, rfl⟩
abbrev main_call0_v88 : Ref sig .tc := ⟨.hbm, 140, rfl⟩
abbrev main_call0_c_22 : Ref sig .tc := ⟨.hbm, 141, rfl⟩
abbrev main_call0_v89 : Ref sig .tc := ⟨.hbm, 142, rfl⟩
abbrev main_call0_v90 : Ref sig .tc := ⟨.hbm, 143, rfl⟩
abbrev main_call0_c_23 : Ref sig .tc := ⟨.hbm, 144, rfl⟩
abbrev main_call0_v91 : Ref sig .tc := ⟨.hbm, 145, rfl⟩
abbrev main_call0_v92 : Ref sig .tc := ⟨.hbm, 146, rfl⟩
abbrev main_call0_v93 : Ref sig .tc := ⟨.hbm, 147, rfl⟩
abbrev main_call0_v94 : Ref sig .tc := ⟨.hbm, 148, rfl⟩
abbrev main_call0_v95 : Ref sig .tc := ⟨.hbm, 149, rfl⟩
abbrev main_call0_c_24 : Ref sig .tc := ⟨.hbm, 150, rfl⟩
abbrev main_call0_v96 : Ref sig .tc := ⟨.hbm, 151, rfl⟩
abbrev main_call0_v97 : Ref sig .tc := ⟨.hbm, 152, rfl⟩
abbrev main_call0_c_25 : Ref sig .tc := ⟨.hbm, 153, rfl⟩
abbrev main_call0_v98 : Ref sig .tc := ⟨.hbm, 154, rfl⟩
abbrev main_call0_v99 : Ref sig .tc := ⟨.hbm, 155, rfl⟩
abbrev main_call0_v100 : Ref sig .tc := ⟨.hbm, 156, rfl⟩
abbrev main_call0_v101 : Ref sig .tc := ⟨.hbm, 157, rfl⟩
abbrev main_call0_v102 : Ref sig .tc := ⟨.hbm, 158, rfl⟩
abbrev main_call0_v103 : Ref sig .tc := ⟨.hbm, 159, rfl⟩
abbrev main_call0_v104 : Ref sig .tc := ⟨.hbm, 160, rfl⟩
abbrev main_call0_v105 : Ref sig .tc := ⟨.hbm, 161, rfl⟩
abbrev main_call0_c_26 : Ref sig .tc := ⟨.hbm, 162, rfl⟩
abbrev main_call0_v106 : Ref sig .tc := ⟨.hbm, 163, rfl⟩
abbrev main_call0_v107 : Ref sig .tc := ⟨.hbm, 164, rfl⟩
abbrev main_call0_v108 : Ref sig .tc := ⟨.hbm, 165, rfl⟩
abbrev main_call0_c_27 : Ref sig .tc := ⟨.hbm, 166, rfl⟩
abbrev main_call0_v109 : Ref sig .tc := ⟨.hbm, 167, rfl⟩
abbrev main_call0_v110 : Ref sig .tc := ⟨.hbm, 168, rfl⟩
abbrev main_call0_c_28 : Ref sig .tc := ⟨.hbm, 169, rfl⟩
abbrev main_call0_v111 : Ref sig .tc := ⟨.hbm, 170, rfl⟩
abbrev main_call0_v112 : Ref sig .tc := ⟨.hbm, 171, rfl⟩
abbrev main_call0_v113 : Ref sig .tc := ⟨.hbm, 172, rfl⟩
abbrev main_call0_v114 : Ref sig .tc := ⟨.hbm, 173, rfl⟩
abbrev main_call0_v115 : Ref sig .tc := ⟨.hbm, 174, rfl⟩
abbrev main_call0_c_29 : Ref sig .tc := ⟨.hbm, 175, rfl⟩
abbrev main_call0_v116 : Ref sig .tc := ⟨.hbm, 176, rfl⟩
abbrev main_call0_v117 : Ref sig .tc := ⟨.hbm, 177, rfl⟩
abbrev main_call0_c_30 : Ref sig .tc := ⟨.hbm, 178, rfl⟩
abbrev main_call0_v118 : Ref sig .tc := ⟨.hbm, 179, rfl⟩
abbrev main_call0_v119 : Ref sig .tc := ⟨.hbm, 180, rfl⟩
abbrev main_call0_v120 : Ref sig .tc := ⟨.hbm, 181, rfl⟩
abbrev main_call0_v121 : Ref sig .tc := ⟨.hbm, 182, rfl⟩
abbrev main_call0_v122 : Ref sig .tc := ⟨.hbm, 183, rfl⟩
abbrev main_call0_c_31 : Ref sig .tc := ⟨.hbm, 184, rfl⟩
abbrev main_call0_v123 : Ref sig .tc := ⟨.hbm, 185, rfl⟩
abbrev main_call0_v124 : Ref sig .tc := ⟨.hbm, 186, rfl⟩
abbrev main_call0_c_32 : Ref sig .tc := ⟨.hbm, 187, rfl⟩
abbrev main_call0_v125 : Ref sig .tc := ⟨.hbm, 188, rfl⟩
abbrev main_call0_v126 : Ref sig .tc := ⟨.hbm, 189, rfl⟩
abbrev main_call0_v127 : Ref sig .tc := ⟨.hbm, 190, rfl⟩
abbrev main_call0_v128 : Ref sig .tc := ⟨.hbm, 191, rfl⟩
abbrev main_call0_v129 : Ref sig .tc := ⟨.hbm, 192, rfl⟩
abbrev main_call0_c_33 : Ref sig .tc := ⟨.hbm, 193, rfl⟩
abbrev main_call0_v130 : Ref sig .tc := ⟨.hbm, 194, rfl⟩
abbrev main_call0_v131 : Ref sig .tc := ⟨.hbm, 195, rfl⟩
abbrev main_call0_c_34 : Ref sig .tc := ⟨.hbm, 196, rfl⟩
abbrev main_call0_v132 : Ref sig .tc := ⟨.hbm, 197, rfl⟩
abbrev main_call0_v133 : Ref sig .tc := ⟨.hbm, 198, rfl⟩
abbrev main_call0_v134 : Ref sig .tc := ⟨.hbm, 199, rfl⟩
abbrev main_call0_v135 : Ref sig .tc := ⟨.hbm, 200, rfl⟩
abbrev main_call0_v136 : Ref sig .tc := ⟨.hbm, 201, rfl⟩
abbrev main_call0_v137 : Ref sig .tc := ⟨.hbm, 202, rfl⟩
abbrev main_call0_v138 : Ref sig .tc := ⟨.hbm, 203, rfl⟩
abbrev main_call0_v139 : Ref sig .tc := ⟨.hbm, 204, rfl⟩
abbrev main_call0_c_35 : Ref sig .tc := ⟨.hbm, 205, rfl⟩
abbrev main_call0_v140 : Ref sig .tc := ⟨.hbm, 206, rfl⟩
abbrev main_call0_v141 : Ref sig .tc := ⟨.hbm, 207, rfl⟩
abbrev main_call0_v142 : Ref sig .tc := ⟨.hbm, 208, rfl⟩
abbrev main_call0_c_36 : Ref sig .tc := ⟨.hbm, 209, rfl⟩
abbrev main_call0_v143 : Ref sig .tc := ⟨.hbm, 210, rfl⟩
abbrev main_call0_v144 : Ref sig .tc := ⟨.hbm, 211, rfl⟩
abbrev main_call0_c_37 : Ref sig .tc := ⟨.hbm, 212, rfl⟩
abbrev main_call0_v145 : Ref sig .tc := ⟨.hbm, 213, rfl⟩
abbrev main_call0_v146 : Ref sig .tc := ⟨.hbm, 214, rfl⟩
abbrev main_call0_v147 : Ref sig .tc := ⟨.hbm, 215, rfl⟩
abbrev main_call0_v148 : Ref sig .tc := ⟨.hbm, 216, rfl⟩
abbrev main_call0_v149 : Ref sig .tc := ⟨.hbm, 217, rfl⟩
abbrev main_call0_c_38 : Ref sig .tc := ⟨.hbm, 218, rfl⟩
abbrev main_call0_v150 : Ref sig .tc := ⟨.hbm, 219, rfl⟩
abbrev main_call0_v151 : Ref sig .tc := ⟨.hbm, 220, rfl⟩
abbrev main_call0_c_39 : Ref sig .tc := ⟨.hbm, 221, rfl⟩
abbrev main_call0_v152 : Ref sig .tc := ⟨.hbm, 222, rfl⟩
abbrev main_call0_v153 : Ref sig .tc := ⟨.hbm, 223, rfl⟩
abbrev main_call0_v154 : Ref sig .tc := ⟨.hbm, 224, rfl⟩
abbrev main_call0_v155 : Ref sig .tc := ⟨.hbm, 225, rfl⟩
abbrev main_call0_v156 : Ref sig .tc := ⟨.hbm, 226, rfl⟩
abbrev main_call0_c_40 : Ref sig .tc := ⟨.hbm, 227, rfl⟩
abbrev main_call0_v157 : Ref sig .tc := ⟨.hbm, 228, rfl⟩
abbrev main_call0_v158 : Ref sig .tc := ⟨.hbm, 229, rfl⟩
abbrev main_call0_c_41 : Ref sig .tc := ⟨.hbm, 230, rfl⟩
abbrev main_call0_v159 : Ref sig .tc := ⟨.hbm, 231, rfl⟩
abbrev main_call0_v160 : Ref sig .tc := ⟨.hbm, 232, rfl⟩
abbrev main_call0_v161 : Ref sig .tc := ⟨.hbm, 233, rfl⟩
abbrev main_call0_v162 : Ref sig .tc := ⟨.hbm, 234, rfl⟩
abbrev main_call0_v163 : Ref sig .tc := ⟨.hbm, 235, rfl⟩
abbrev main_call0_c_42 : Ref sig .tc := ⟨.hbm, 236, rfl⟩
abbrev main_call0_v164 : Ref sig .tc := ⟨.hbm, 237, rfl⟩
abbrev main_call0_v165 : Ref sig .tc := ⟨.hbm, 238, rfl⟩
abbrev main_call0_c_43 : Ref sig .tc := ⟨.hbm, 239, rfl⟩
abbrev main_call0_v166 : Ref sig .tc := ⟨.hbm, 240, rfl⟩
abbrev main_call0_v167 : Ref sig .tc := ⟨.hbm, 241, rfl⟩
abbrev main_call0_v168 : Ref sig .tc := ⟨.hbm, 242, rfl⟩
abbrev main_call0_v169 : Ref sig .tc := ⟨.hbm, 243, rfl⟩
abbrev main_call0_v170 : Ref sig .tc := ⟨.hbm, 244, rfl⟩
abbrev main_v22_0 : Ref sig .tc := ⟨.hbm, 245, rfl⟩
abbrev main_call0_v172 : Ref sig .tc := ⟨.hbm, 246, rfl⟩
abbrev main_call0_v173 : Ref sig .tc := ⟨.hbm, 247, rfl⟩
abbrev main_call0_c_44 : Ref sig .tc := ⟨.hbm, 248, rfl⟩
abbrev main_call0_v174 : Ref sig .tc := ⟨.hbm, 249, rfl⟩
abbrev main_v22_1 : Ref sig .tc := ⟨.hbm, 250, rfl⟩
abbrev main_v23 : Ref sig .tc := ⟨.hbm, 251, rfl⟩
abbrev main_c_5 : Ref sig .tc := ⟨.hbm, 252, rfl⟩
abbrev main_v24 : Ref sig .tc := ⟨.hbm, 253, rfl⟩
abbrev main_v25 : Ref sig .tc := ⟨.hbm, 254, rfl⟩
abbrev main_c_6 : Ref sig .tc := ⟨.hbm, 255, rfl⟩
abbrev main_v26 : Ref sig .tc := ⟨.hbm, 256, rfl⟩
abbrev main_v27 : Ref sig .tc := ⟨.hbm, 257, rfl⟩
abbrev main_v28 : Ref sig .tc := ⟨.hbm, 258, rfl⟩
abbrev main_cst : Ref sig .tc := ⟨.hbm, 259, rfl⟩
abbrev main_v29 : Ref sig .tc := ⟨.hbm, 260, rfl⟩
abbrev main_v30 : Ref sig .tc := ⟨.hbm, 261, rfl⟩
abbrev main_cst_7 : Ref sig .tc := ⟨.hbm, 262, rfl⟩
abbrev main_v31 : Ref sig .tc := ⟨.hbm, 263, rfl⟩
abbrev main_v32 : Ref sig .tc := ⟨.hbm, 264, rfl⟩
abbrev main_v33 : Ref sig .tc := ⟨.hbm, 265, rfl⟩
abbrev main_v34 : Ref sig .tc := ⟨.hbm, 266, rfl⟩
abbrev main_v35 : Ref sig .tc := ⟨.hbm, 267, rfl⟩
abbrev main_v36 : Ref sig .tc := ⟨.hbm, 268, rfl⟩
abbrev main_v37 : Ref sig .tc := ⟨.hbm, 269, rfl⟩
abbrev main_call1_v0 : Ref sig .tc := ⟨.hbm, 270, rfl⟩
abbrev main_call1_cst : Ref sig .tc := ⟨.hbm, 271, rfl⟩
abbrev main_call1_c : Ref sig .tc := ⟨.hbm, 272, rfl⟩
abbrev main_call1_v1_0 : Ref sig .tc := ⟨.hbm, 273, rfl⟩
abbrev main_v38 : Ref sig .tc := ⟨.hbm, 274, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Pipeline.Value

@[expose] public section

/-! # What one run of the body does

From a block of logits and the running best value and column of each row, the body leaves the new best value and column
in its two scratch buffers and, at the last grid point, the column in the output's buffer. -/

noncomputable section

namespace Cert.KernelIdeal.Sample

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The words of the block at grid point `i` (random bits with the exponent of one), read as floats. -/
def blockFloats (i : grid0.Coords) : FVec F S128x7680 .f32 :=
  k0_pay46
    (k0_pay43 (k0_pay30 (k0_pay17 i) (k0_pay18 i) k0_pay19) (k0_pay31 (k0_pay17 i) (k0_pay18 i) k0_pay19)
      (k0_pay32 (k0_pay17 i) (k0_pay18 i) k0_pay19) 17#32)
    (k0_pay44 (k0_pay30 (k0_pay17 i) (k0_pay18 i) k0_pay19) (k0_pay31 (k0_pay17 i) (k0_pay18 i) k0_pay19)
      (k0_pay32 (k0_pay17 i) (k0_pay18 i) k0_pay19) 17#32)
    (k0_pay45 (k0_pay30 (k0_pay17 i) (k0_pay18 i) k0_pay19) (k0_pay31 (k0_pay17 i) (k0_pay18 i) k0_pay19)
      (k0_pay32 (k0_pay17 i) (k0_pay18 i) k0_pay19) 17#32)
    8#32

/-- The best value of each row after point `i`, from the block `X` and the best value `B` before it. -/
def newBest (i : grid0.Coords) (X : S128x7680.Idx → Elt F .f32) (B : S128x1.Idx → Elt F .f32) : S128x1.Idx → Elt F .f32 :=
  if (i 0).val = 0 then k0_pay4 (k0_pay9 i) X (blockFloats i) else k0_pay8 (k0_pay9 i) X (blockFloats i) B B

/-- The best column of each row after point `i`, from the block `X`, the best value `B` and the best column `I` before it. -/
def newIdx (i : grid0.Coords) (X : S128x7680.Idx → Elt F .f32) (B : S128x1.Idx → Elt F .f32) (I : S128x1.Idx → Elt F .i32) :
    S128x1.Idx → Elt F .i32 :=
  if (i 0).val = 0 then k0_pay5 (k0_pay9 i) X (blockFloats i) else k0_pay7 (k0_pay9 i) X (blockFloats i) B I

/-- The first branch is taken at the first grid point. -/
theorem cond1 : ∀ k : Fin 14, (Scalar.cmpi .ne (Scalar.extui (Scalar.cmpi .eq (BitVec.ofNat 32 k.val) 0#32) : BitVec 32) 0#32 : BitVec 1) = 1#1 ↔ k.val = 0 := by
  decide

/-- The second branch is taken at every later grid point. -/
theorem cond2 : ∀ k : Fin 14, (Scalar.cmpi .ne (Scalar.extui (Scalar.cmpi .sgt (BitVec.ofNat 32 k.val) 0#32) : BitVec 32) 0#32 : BitVec 1) = 1#1 ↔ ¬ k.val = 0 := by
  decide

/-- The third branch is taken at the last grid point. -/
theorem cond3 (i : grid0.Coords) : k0_cond3 i = 1#1 ↔ (i 0).val = 13 := by
  have h : ∀ k : Fin 14, (Scalar.cmpi .ne (Scalar.extui (Scalar.cmpi .eq (BitVec.ofNat 32 k.val) 13#32) : BitVec 32) 0#32 : BitVec 1) = 1#1 ↔ k.val = 13 := by decide
  exact h (i 0)

/-- The offsets of an access to a whole buffer are zero. -/
theorem zero_offsets : (![0, 0] : Fin 2 → Nat) = fun _ => 0 := funext fun a => by fin_cases a <;> rfl

/-- A store over a whole buffer leaves what it stored. -/
theorem read_store {sp : Space} {e : EltTy} (v : View sig .tc sp S128x1 e) (f : v.ty.Contents (Elt F)) (w : S128x1.Idx → Elt F e) :
    v.read (Elt F) (v.writes (Elt F) f [⟨Rect.unit (s := S128x1) ![0, 0] S128x1.size inb_S128x1_S128x1_0_0, w⟩]) = w := by
  rw [View.read_writes_eq_canon, View.canon_unit_zero (S := S128x1) zero_offsets]
  exact fun y => ⟨_, List.mem_cons_self, View.mem_set_unit_zero (S := S128x1) zero_offsets inb_S128x1_S128x1_0_0 y⟩

/-- The program has no loop whose variant must be given. -/
abbrev 𝒱₀ : Variants := Variants.none

/-- The body, run on the input block `X`, the output buffer `O`, the best values `B` and the best columns `I`, ends with the
    input as it was, the scratch buffers at the new best values and columns, and the output buffer at the new columns at
    the last point and as it was at the others. -/
theorem body_run (c : Dev nD) (E : Set ℕ) (i : grid0.Coords)
    (a1 : Memref sig .tc .vmem S128x7680 .f32) (h1 : a1.IsWhole) (a2 : Memref sig .tc .vmem S128x1 .i32) (h2 : a2.IsWhole)
    (X : S128x7680.Idx → Elt F .f32) (O : S128x1.Idx → Elt F .i32)
    (B : S128x1.Idx → Elt F .f32) (I : S128x1.Idx → Elt F .i32) (K : PUnit → sProp 𝕄) :
    iprop((owns (c : Thread nD τ) a1 fullShare X ∗ owns (c : Thread nD τ) a2 fullShare O
            ∗ owns (c : Thread nD τ) (Memref.whole cc0_scratch0) fullShare B ∗ owns (c : Thread nD τ) (Memref.whole cc0_scratch1) fullShare I)
          ∗ (iprop(owns (c : Thread nD τ) a1 fullShare X
                  ∗ owns (c : Thread nD τ) a2 fullShare (if (i 0).val = 13 then newIdx i X B I else O)
                  ∗ owns (c : Thread nD τ) (Memref.whole cc0_scratch0) fullShare (newBest i X B)
                  ∗ owns (c : Thread nD τ) (Memref.whole cc0_scratch1) fullShare (newIdx i X B I)) -∗ K ⟨⟩))
      ⊢ wp frame (wpE (defs₀ (F := F)) 𝒱₀ c none) E
          (cc0__sample_kernel i a1 h1 a2 h2 (Memref.whole cc0_scratch0) (Memref.isWhole_whole _) (Memref.whole cc0_scratch1) (Memref.isWhole_whole _)) K := by
  have hc1 := cond1 (i 0)
  have hc2 := cond2 (i 0)
  have hc3 := cond3 i
  unfold owns newBest newIdx
  by_cases hA : (i 0).val = 0
  · have hD : ¬ (i 0).val = 13 := by omega
    have p1 := hc1.mpr hA
    have p2 := mt hc2.mp (fun h => h hA)
    have p3 := mt hc3.mp hD
    rw [if_neg hD, if_pos hA, if_pos hA]
    rw [cc0__sample_kernel_eq_skeleton]; delta cc0__sample_kernel_skel
    rw [k0_part1_eq_skeleton, k0_part2_eq_skeleton, k0_part3_eq_skeleton, k0_part4_eq_skeleton]
    iintro ⟨⟨⟨%f0, %hf0, H0⟩, ⟨%f1, %hf1, H1⟩, ⟨%f2, %hf2, H2⟩, ⟨%f3, %hf3, H3⟩⟩, Hk⟩
    sl_exec
    sl_step
    iapply Hk
    isplitl [H0]
    · iexists f0; isplitr; · ipureintro; exact hf0
      iexact H0
    isplitl [H1]
    · iexists f1; isplitr; · ipureintro; exact hf1
      iexact H1
    isplitl [H2]
    · iexists _; isplitr; swap; · iexact H2
      ipureintro
      sl_unfold_words
      rw [read_store]
      simp only [View.readAt_eq_ld, hf0, View.ld_unit_zero (S := S128x7680) zero_offsets]
      rfl
    · iexists _; isplitr; swap; · iexact H3
      ipureintro
      sl_unfold_words
      rw [read_store]
      simp only [View.readAt_eq_ld, hf0, View.ld_unit_zero (S := S128x7680) zero_offsets]
      rfl
  · have p1 := mt hc1.mp hA
    have p2 := hc2.mpr hA
    rw [if_neg hA, if_neg hA]
    by_cases hD : (i 0).val = 13
    · have p3 := hc3.mpr hD
      rw [if_pos hD]
      rw [cc0__sample_kernel_eq_skeleton]; delta cc0__sample_kernel_skel
      rw [k0_part1_eq_skeleton, k0_part2_eq_skeleton, k0_part3_eq_skeleton, k0_part4_eq_skeleton]
      iintro ⟨⟨⟨%f0, %hf0, H0⟩, ⟨%f1, %hf1, H1⟩, ⟨%f2, %hf2, H2⟩, ⟨%f3, %hf3, H3⟩⟩, Hk⟩
      sl_exec
      sl_step
      iapply Hk
      isplitl [H0]
      · iexists f0; isplitr; · ipureintro; exact hf0
        iexact H0
      isplitl [H1]
      · iexists _; isplitr; swap; · iexact H1
        ipureintro
        sl_unfold_words
        rw [read_store]
        rw [View.readCov_unit_zero (S := S128x1) _ zero_offsets]
        simp only [View.readAt_eq_ld, hf0, hf2, hf3, View.ld_unit_zero (S := S128x7680) zero_offsets, View.ld_unit_zero (S := S128x1) zero_offsets]
        rfl
      isplitl [H2]
      · iexists _; isplitr; swap; · iexact H2
        ipureintro
        sl_unfold_words
        rw [read_store]
        simp only [View.readAt_eq_ld, hf0, hf2, hf3, View.ld_unit_zero (S := S128x7680) zero_offsets, View.ld_unit_zero (S := S128x1) zero_offsets]
        rfl
      · iexists _; isplitr; swap; · iexact H3
        ipureintro
        sl_unfold_words
        rw [read_store]
        simp only [View.readAt_eq_ld, hf0, hf2, hf3, View.ld_unit_zero (S := S128x7680) zero_offsets, View.ld_unit_zero (S := S128x1) zero_offsets]
        rfl
    · have p3 := mt hc3.mp hD
      rw [if_neg hD]
      rw [cc0__sample_kernel_eq_skeleton]; delta cc0__sample_kernel_skel
      rw [k0_part1_eq_skeleton, k0_part2_eq_skeleton, k0_part3_eq_skeleton, k0_part4_eq_skeleton]
      iintro ⟨⟨⟨%f0, %hf0, H0⟩, ⟨%f1, %hf1, H1⟩, ⟨%f2, %hf2, H2⟩, ⟨%f3, %hf3, H3⟩⟩, Hk⟩
      sl_exec
      sl_step
      iapply Hk
      isplitl [H0]
      · iexists f0; isplitr; · ipureintro; exact hf0
        iexact H0
      isplitl [H1]
      · iexists f1; isplitr; · ipureintro; exact hf1
        iexact H1
      isplitl [H2]
      · iexists _; isplitr; swap; · iexact H2
        ipureintro
        sl_unfold_words
        rw [read_store]
        simp only [View.readAt_eq_ld, hf0, hf2, hf3, View.ld_unit_zero (S := S128x7680) zero_offsets, View.ld_unit_zero (S := S128x1) zero_offsets]
        rfl
      · iexists _; isplitr; swap; · iexact H3
        ipureintro
        sl_unfold_words
        rw [read_store]
        simp only [View.readAt_eq_ld, hf0, hf2, hf3, View.ld_unit_zero (S := S128x7680) zero_offsets, View.ld_unit_zero (S := S128x1) zero_offsets]
        rfl

end Cert.KernelIdeal.Sample
-- ==== Proof.Run.lean ====
module

public import proofs.«01_k».proof.Proof.Body

@[expose] public section

/-! # The run over the grid

The columns of the last block past the array's end are masked, so what fills them does not matter; between grid points the
scratch buffers hold the running best value and column of each row. -/

noncomputable section

namespace Cert.KernelIdeal.Sample

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes does not depend on the columns past the array's end -/

/-- The values of a block agree as soon as the blocks agree at the columns the kernel keeps. -/
theorem masked_congr (v3 : IVec S128x7680 32) (X Y : S128x7680.Idx → Elt F .f32) (f : FVec F S128x7680 .f32)
    (h : ∀ j, IntOp.cmpi .ult (v3 j) 100000#32 = 1#1 → X j = Y j) : k0_pay1 v3 X f = k0_pay1 v3 Y f := by
  funext j
  show Scalar.select (IntOp.cmpi .ult (v3 j) 100000#32) (FloatOps.addf _ (X j)) _ = Scalar.select (IntOp.cmpi .ult (v3 j) 100000#32) (FloatOps.addf _ (Y j)) _
  by_cases hc : IntOp.cmpi .ult (v3 j) 100000#32 = 1#1
  · rw [h j hc]
  · unfold Scalar.select
    exact (if_neg hc).trans (if_neg hc).symm

/-- The new best values depend on the block only through its masked values. -/
theorem newBest_congr (i : grid0.Coords) (X Y : S128x7680.Idx → Elt F .f32) (B : S128x1.Idx → Elt F .f32)
    (h : k0_pay1 (k0_pay9 i) X (blockFloats i) = k0_pay1 (k0_pay9 i) Y (blockFloats i)) : newBest i X B = newBest i Y B := by
  unfold newBest k0_pay4 k0_pay8 k0_pay6 k0_pay2; rw [h]

/-- The new best columns depend on the block only through its masked values. -/
theorem newIdx_congr (i : grid0.Coords) (X Y : S128x7680.Idx → Elt F .f32) (B : S128x1.Idx → Elt F .f32) (I : S128x1.Idx → Elt F .i32)
    (h : k0_pay1 (k0_pay9 i) X (blockFloats i) = k0_pay1 (k0_pay9 i) Y (blockFloats i)) : newIdx i X B I = newIdx i Y B I := by
  unfold newIdx k0_pay5 k0_pay7 k0_pay6 k0_pay3 k0_pay2; rw [h]

/-- The grid's coordinate at point `t` is `t`. -/
theorem coord (t : Fin cfg0.N) : (grid0.coords t 0).val = t.val := by
  rcases fin_N0 t with rfl | rfl | rfl | rfl | rfl | rfl | rfl | rfl | rfl | rfl | rfl | rfl | rfl | rfl <;> rfl

/-- The column of lane `j` of the block at point `t`. -/
theorem col (t : Fin cfg0.N) (j : S128x7680.Idx) : (k0_pay9 (grid0.coords t) j).toNat = t.val * 7680 + (j 1).val := by
  have h1 : (j 1).val < 7680 := (j 1).isLt
  have ht : t.val < 14 := N_0 ▸ t.isLt
  have e : k0_pay9 (grid0.coords t) j
      = IntOp.addi (BitVec.ofNat 32 (0 * 7680 + (j 1).val)) (IntOp.muli (BitVec.ofNat 32 (grid0.coords t 0).val) 7680#32) := rfl
  rw [e, coord]
  simp only [IntOp.addi, IntOp.muli, BitVec.toNat_add, BitVec.toNat_mul, BitVec.toNat_ofNat]
  omega

/-- The mask: the kernel keeps the columns inside the array. -/
theorem kept_iff (t : Fin cfg0.N) (j : S128x7680.Idx) :
    IntOp.cmpi .ult (k0_pay9 (grid0.coords t) j) 100000#32 = 1#1 ↔ t.val * 7680 + (j 1).val < 100000 := by
  rw [IntOp.cmpi_ult, col]; rfl

/-- The rows of the block at point `t` inside the array: all. -/
theorem xsize_0 (t : Fin cfg0.N) : win0_0.xsize (grid0.coords t) 0 = 128 := by
  rcases fin_N0 t with rfl | rfl | rfl | rfl | rfl | rfl | rfl | rfl | rfl | rfl | rfl | rfl | rfl | rfl <;> decide
/-- The columns of the block at point `t` inside the array: all, except in the last block. -/
theorem xsize_1 (t : Fin cfg0.N) : win0_0.xsize (grid0.coords t) 1 = min 7680 (100000 - t.val * 7680) := by
  rcases fin_N0 t with rfl | rfl | rfl | rfl | rfl | rfl | rfl | rfl | rfl | rfl | rfl | rfl | rfl | rfl <;> decide

/-- The fetch moves every column inside the array. -/
theorem moved_of (t : Fin cfg0.N) (j : S128x7680.Idx) (h : t.val * 7680 + (j 1).val < 100000) :
    win0_0.moved (grid0.coords t) j = true := by
  rw [Window.moved_iff]
  have h0 : (j 0).val < 128 := (j 0).isLt
  have h1 : (j 1).val < 7680 := (j 1).isLt
  intro a
  match a with
  | ⟨0, _⟩ => exact lt_of_lt_of_eq h0 (xsize_0 t).symm
  | ⟨1, _⟩ => exact lt_of_lt_of_eq (show (j 1).val < min 7680 (100000 - t.val * 7680) by omega) (xsize_1 t).symm

/-- The block at point `t` filled out past the array's end by zero words, which nothing reads. -/
def block (c : Dev nD) (t : Fin cfg0.N) : S128x7680.Idx → Elt F .f32 :=
  win0_0.fill (grid0.coords t) (fun _ => Scalar.ofBits .f32 0#32) (iblk m c 0 t)

/-- Whatever fills the block out past the array's end, the values the body keeps are the same. -/
theorem masked_fill (c : Dev nD) (t : Fin cfg0.N) (d : S128x7680.Idx → Elt F .f32) (f : FVec F S128x7680 .f32) :
    k0_pay1 (k0_pay9 (grid0.coords t)) (win0_0.fill (grid0.coords t) d (iblk m c 0 t)) f
      = k0_pay1 (k0_pay9 (grid0.coords t)) (block m c t) f := by
  apply masked_congr
  intro j hj
  have hm := moved_of t j ((kept_iff t j).mp hj)
  unfold block Window.fill
  rw [dif_pos hm, dif_pos hm]

/-! ## The running best value and column -/

/-- The best value of each row after the first `n` blocks. -/
def best (c : Dev nD) : ℕ → S128x1.Idx → Elt F .f32
  | 0 => fun _ => Scalar.ofBits .f32 0#32
  | n + 1 => if h : n < cfg0.N then newBest (grid0.coords ⟨n, h⟩) (block m c ⟨n, h⟩) (best c n) else best c n

/-- The column of that value. -/
def bestIdx (c : Dev nD) : ℕ → S128x1.Idx → Elt F .i32
  | 0 => fun _ => 0#32
  | n + 1 => if h : n < cfg0.N then newIdx (grid0.coords ⟨n, h⟩) (block m c ⟨n, h⟩) (best m c n) (bestIdx c n) else bestIdx c n

/-- One more block, from what the two scratch buffers hold (anything before the first block). -/
theorem best_step (c : Dev nD) (t : Fin cfg0.N) (d : S128x7680.Idx → Elt F .f32) (B : S128x1.Idx → Elt F .f32)
    (hB : t.val ≠ 0 → B = best m c t.val) :
    newBest (grid0.coords t) (win0_0.fill (grid0.coords t) d (iblk m c 0 t)) B = best m c (t.val + 1) := by
  rw [newBest_congr _ _ _ _ (masked_fill m c t d _), best, dif_pos t.isLt]
  by_cases h0 : t.val = 0
  · unfold newBest; rw [if_pos ((coord t).trans h0), if_pos ((coord t).trans h0)]
  · rw [hB h0]

/-- One more block for the best columns, from what the two scratch buffers hold (anything before the first block). -/
theorem bestIdx_step (c : Dev nD) (t : Fin cfg0.N) (d : S128x7680.Idx → Elt F .f32) (B : S128x1.Idx → Elt F .f32) (I : S128x1.Idx → Elt F .i32)
    (hB : t.val ≠ 0 → B = best m c t.val) (hI : t.val ≠ 0 → I = bestIdx m c t.val) :
    newIdx (grid0.coords t) (win0_0.fill (grid0.coords t) d (iblk m c 0 t)) B I = bestIdx m c (t.val + 1) := by
  rw [newIdx_congr _ _ _ _ _ (masked_fill m c t d _), bestIdx, dif_pos t.isLt]
  by_cases h0 : t.val = 0
  · unfold newIdx; rw [if_pos ((coord t).trans h0), if_pos ((coord t).trans h0)]
  · rw [hB h0, hI h0]

/-! ## The run -/

/-- Between points: the two scratch buffers at the running best value and column (anything before the first block), the
    random-number register at anything. -/
def state (c : Dev nD) (n : ℕ) : sProp 𝕄 :=
  iprop((∃ B : S128x1.Idx → Elt F .f32, ∃ I : S128x1.Idx → Elt F .i32,
      ⌜n ≠ 0 → B = best m c n⌝ ∗ ⌜n ≠ 0 → I = bestIdx m c n⌝
      ∗ owns (c : Thread nD τ) (Memref.whole cc0_scratch0) fullShare B ∗ owns (c : Thread nD τ) (Memref.whole cc0_scratch1) fullShare I)
    ∗ ∃ r, prngReg c r)

/-- The proof data: the arrays as launched; after the body the input's buffer at its block and, at the last point, the
    output's at the best columns; between points the two scratch buffers at the running best value and column. -/
def dats (_ : Fin 1) (c : Dev nD) : Dat τ (Elt F) Unit ℕ (UR sig nD τ) ℕ cfg0 c where
  A w := V m c (Pipeline.arrRef spec0 w)
  after w t := match w with
    | ⟨0, _⟩ => block m c t
    | ⟨1, _⟩ => bestIdx m c (t.val + 1)
  Φ t := state m c t.val
  q _ := fullShare
  owed _ := 0

/-- Before the body the input's buffer holds the block at its point, filled out by anything. -/
theorem before_0 (c : Dev nD) (t : Fin cfg0.N) (d) :
    (dats m 0 c).before (0 : Fin 2) t d = win0_0.fill (grid0.coords t) d (iblk m c 0 t) := by
  unfold Dat.before; rw [if_pos (fetch0_0 t)]; rfl

/-- The procedure that the launch calls at point `t` is the body at that point. -/
theorem defs₀_row (t : Fin cfg0.N) : defs₀ (F := F) .tc cfg0.body (cfg0.bodyArgs t (cfg0.slots t)) = bodyAt0 t := by
  unfold defs₀; rw [Defs.onTc_tc]

/-- At the last point the body writes the output's buffer. -/
theorem idle_last (t : Fin cfg0.N) (h : t.val = 13) : idle0 1 (grid0.coords t) = false := by
  rcases fin_N0 t with rfl | rfl | rfl | rfl | rfl | rfl | rfl | rfl | rfl | rfl | rfl | rfl | rfl | rfl <;> first | rfl | cases h
/-- Before the last point the body leaves the output's buffer as it found it. -/
theorem idle_other (t : Fin cfg0.N) (h : t.val ≠ 13) : idle0 1 (grid0.coords t) = true := by
  rcases fin_N0 t with rfl | rfl | rfl | rfl | rfl | rfl | rfl | rfl | rfl | rfl | rfl | rfl | rfl | rfl <;> first | rfl | exact absurd rfl h
/-- Before the last point the output's buffer is not written out. -/
theorem flush_other (t : Fin cfg0.N) (h : t.val ≠ 13) : (cfg0.win 1).flush t = false := by
  have ht : t.val < 14 := N_0 ▸ t.isLt
  rw [Bool.eq_false_iff]
  intro hf
  exact h (by have := (flush0_1 t).mp hf; omega)

/-- At every point the body takes the buffers and the state before it to those after it. -/
theorem body_obligation (c : Dev nD) : BodyObligationLoose (dats m 0 c) (defs₀ (F := F)) 𝒱₀ () Set.univ := fun t => by
  rw [bigSep_W0, bigSep_W0, defs₀_row]
  simp only
  rw [show (dats m 0 c).owesAt () t.succ = (dats m 0 c).owesAt () t.castSucc from rfl,
    show (dats m 0 c).Φ t.castSucc = state m c t.val from rfl, show (dats m 0 c).Φ t.succ = state m c (t.val + 1) from rfl]
  unfold state
  iintro ⟨⟨⟨%B, %I, %hB, %hI, HB, HI⟩, Hr⟩, Ho, ⟨%d0, H0⟩, ⟨%d1, H1⟩⟩
  rw [before_0 m c t d0]
  iapply (body_run (F := F) c Set.univ (grid0.coords t) _ (hstage0_0 ((cfg0.slots t 0).cast nbuf0_0)) _ (hstage0_1 ((cfg0.slots t 1).cast nbuf0_1))
    (win0_0.fill (grid0.coords t) d0 (iblk m c 0 t)) ((dats m 0 c).before (1 : Fin 2) t d1) B I _)
  isplitl [H0 H1 HB HI]
  · isplitl [H0]
    · iexact H0
    isplitl [H1]
    · iexact H1
    isplitl [HB]
    · iexact HB
    · iexact HI
  iintro ⟨H0, H1, HB, HI⟩
  rw [best_step m c t d0 B hB, bestIdx_step m c t d0 B I hB hI]
  isplitl [HB HI Hr]
  · isplitl [HB HI]
    · iexists _; iexists _
      isplitr; rotate_left
      isplitr; rotate_left
      isplitl [HB]
      · iexact HB
      · iexact HI
      · ipureintro; exact fun _ => rfl
      · ipureintro; exact fun _ => rfl
    · iexact Hr
  isplitl [Ho]; · iexact Ho
  isplitl [H0]
  · iexists d0
    rw [show (cfg0.win 0).cut (cfg0.grid.coords t) ((dats m 0 c).after 0 t) = iblk m c 0 t from win0_0.cut_fill _ _ _]
    iexact H0
  · by_cases h13 : t.val = 13
    · rw [if_pos ((coord t).trans h13), idle_last t h13]
      iexact H1
    · rw [if_neg (fun h => h13 ((coord t).symm.trans h)), idle_other t h13, flush_other t h13]
      iexists d1
      iexact H1

end Cert.KernelIdeal.Sample
-- ==== Proof.Result.lean ====
module

public import proofs.«01_k».proof.Proof.Run

@[expose] public section

/-! # The result of a whole run

The kernel runs to its end, and its result is the best column of each row after the last block. -/

noncomputable section

namespace Cert.KernelIdeal.Sample

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window FramePost)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers as the launch hands them over are a state before the first block. -/
theorem enter (c : Dev nD) : (Pipeline.ΦA spec0 c : sProp 𝕄) ⊢ state m c 0 := by
  unfold Pipeline.ΦA state
  rw [scopedRest0_eq]
  iintro ⟨⟨⟨%B, HB⟩, ⟨%I, HI⟩⟩, Hr⟩
  isplitl [HB HI]
  · iexists B; iexists I
    isplitr; rotate_left
    isplitr; rotate_left
    isplitl [HB]
    · rw [owns_whole]; iexact HB
    · rw [owns_whole]; iexact HI
    · ipureintro; exact fun h => absurd rfl h
    · ipureintro; exact fun h => absurd rfl h
  · iexact Hr

/-- And any state can be handed back. -/
theorem leave (c : Dev nD) (n : ℕ) : state m c n ⊢ (Pipeline.ΦA spec0 c : sProp 𝕄) := by
  unfold Pipeline.ΦA state
  rw [scopedRest0_eq]
  simp only [owns_whole]
  iintro ⟨⟨%B, %I, -, -, HB, HI⟩, Hr⟩
  isplitl [HB HI]
  · isplitl [HB]
    · iexists B; iexact HB
    · iexists I; iexact HI
  · iexact Hr

set_option backward.isDefEq.respectTransparency.types false in
/-- The whole program runs to its end: the arrays at what the pipeline leaves, every other buffer at what the host
    lines after it leave, every semaphore counter at zero. -/
theorem run_main : θ_run defs (onTc (τ := τ) (main (F := F))) ⟨m, fun _ => 0, ρ⟩
    (fun r => FramePost cfgs (dats m) 0 (Pipeline.afterTail₀ cfgs (dats m) 0 (V0 m) [hostOps1]) r ∧ r.2.sem = fun _ => 0) :=
  Pipeline.θ_run_frame_around_track cfgs (dats m) 0 launch0 defs₀ 𝒱₀ m ρ main
    (body_obligation m) (fun c => (dats m 0 c).share_full fun _ => rfl) (fun _ _ => rfl)
    (V0 m) [hostOps1] sfx_sub sfx_fresh sfx_keeps (hmain m 𝒱₀) (fun c w => by fin_cases w <;> rfl)
    (enter m) (fun c => leave m c _) _ (fun _ h => h)

/-! ## The result array -/

/-- The columns the last point leaves, as contents of the result array. -/
abbrev result (c : Dev nD) : Buf (Elt F) ((c : Thread nD τ).loc main_call0_v0) := bestIdx m c 14

/-- The one write-back, at the last point, writes it. -/
theorem flushed_eq (c : Dev nD) (t : Fin cfg0.N) (hf : (cfg0.win 1).flush t = true) :
    (dats m 0 c).flushed 1 t = ((cfg0.win 1).blk t).view.read (Elt F) (result m c) := by
  have ht : t.val < 14 := N_0 ▸ t.isLt
  have h13 : t.val = 13 := by have := (flush0_1 t).mp hf; omega
  obtain rfl : t = t0_13 := Fin.ext h13
  show (cfg0.win 1).cut (grid0.coords t0_13) (bestIdx m c 14) = _
  have hz' : (fun a => win0_1.index t0_13 a * main_call0_v0.ty.shape.size a) = fun _ => 0 := funext fun a => by fin_cases a <;> decide
  exact (Memref.read_access_unit_zero (Elt F) main_call0_v0 hz' (fun a => by rw [congrFun hz' a]; simp) (result m c)).symm

/-- So the result array ends holding the best columns after the last block. -/
theorem final_o (c : Dev nD) : (dats m 0 c).arrAt 1 cfg0.N = result m c :=
  (dats m 0 c).arrAt_eq_of_cover 1 (result m c) (flushed_eq m c) fun i =>
    ⟨t0_13, (flush0_1 t0_13).mpr rfl, by
      show i ∈ ((View.whole main_call0_v0).slice (win0_1.rect t0_13)).set
      rw [View.set_slice_whole, Rect.mem_set_unit]
      intro a
      have h0 : (i 0 : Nat) < 128 := (i 0).isLt
      have h1 : (i 1 : Nat) < 1 := (i 1).isLt
      match a with
      | ⟨0, _⟩ => show win0_1.index t0_13 0 * win0_1.size 0 ≤ (i 0 : Nat) ∧ (i 0 : Nat) < win0_1.index t0_13 0 * win0_1.size 0 + win0_1.xsize (grid0.coords t0_13) 0
                  rw [show win0_1.index t0_13 0 * win0_1.size 0 = 0 from by decide +kernel, show win0_1.xsize (grid0.coords t0_13) 0 = 128 from by decide +kernel]; omega
      | ⟨1, _⟩ => show win0_1.index t0_13 1 * win0_1.size 1 ≤ (i 1 : Nat) ∧ (i 1 : Nat) < win0_1.index t0_13 1 * win0_1.size 1 + win0_1.xsize (grid0.coords t0_13) 1
                  rw [show win0_1.index t0_13 1 * win0_1.size 1 = 0 from by decide +kernel, show win0_1.xsize (grid0.coords t0_13) 1 = 1 from by decide +kernel]; omega⟩

/-- The program's result: the best columns as a vector of 128 (the host's reshape of the result array). -/
def sampled (c : Dev nD) : Buf (Elt F) ((c : Thread nD τ).loc main_v0) :=
  shapeCast S128 (bestIdx m c 14) shapeCasts_S128x1_S128

/-- The program ends with the sampled columns in its result, the logits unchanged and every semaphore counter zero. -/
theorem run : θ_run defs (onTc (τ := τ) (main (F := F))) ⟨m, fun _ => 0, ρ⟩ (fun r => (∀ c : Dev nD,
      r.2.mem ((c.tc : Thread nD τ).loc main_v0) = sampled m c
      ∧ r.2.mem ((c.tc : Thread nD τ).loc main_arg0) = m ((c.tc : Thread nD τ).loc main_arg0)) ∧ r.2.sem = fun _ => 0) := by
  refine (θ_run defs _ _).mono (fun r h => ⟨fun c => ⟨?_, ?_⟩, h.2⟩) (run_main m ρ)
  · refine ((h.1 c).2 main_v0 (by decide)).trans ?_
    unfold Pipeline.afterTail₀
    show StableHlo.after hostOps1 _ _ = _
    rw [StableHlo.after_cons, StableHlo.after_nil]
    after_results
    funext i
    exact congrArg (fun X : S128x1.Idx → Elt F .i32 => shapeCast S128 X shapeCasts_S128x1_S128 i)
      ((Pipeline.withArrays_arr spec0 launch0.win.arr_inj c (V0 m c) (fun w => (dats m 0 c).arrAt w cfg0.N) 1).trans (final_o m c))
  · exact ((h.1 c).1 0).trans (((dats m 0 c).arrAt_in 0 rfl _).trans (V_main_arg0 m c))

end Cert.KernelIdeal.Sample

end
-- ==== Proof.KernelFrame.lean ====
module

public import proofs.«01_k».proof.Defs
public import proofs.«01_k».proof.Proof.Gen.Kernel
public import proofs.«01_k».proof.Proof.Result

@[expose] public section

/-! # The kernel runs

The kernel and its reading over the extended reals are the same text, so the run shown for every reading of the floats
serves both. -/

noncomputable section

namespace Cert.Kernel.Sample

open Idealize.ShloMosaic Idealize.SL.Sem

variable {F : FTy → Type} [FloatOps F]

attribute [local instance] Cert.Kernel.Gen.facts Cert.KernelIdeal.Gen.facts

/-- The two bodies are the same. -/
theorem body_eq (i a1 h1 a2 h2 a3 h3 a4 h4) : Cert.Kernel.cc0__sample_kernel (F := F) i a1 h1 a2 h2 a3 h3 a4 h4 = Cert.KernelIdeal.cc0__sample_kernel (F := F) i a1 h1 a2 h2 a3 h3 a4 h4 := rfl

/-- The bodies that the two programs' launches run are the same. -/
theorem defs₀_eq : Cert.Kernel.defs₀ (F := F) = Cert.KernelIdeal.defs₀ (F := F) := by
  unfold Cert.Kernel.defs₀ Cert.KernelIdeal.defs₀
  refine congrArg (Defs.onTc (Λ := Cert.Kernel.Λ₀)) ?_
  funext l x
  match l, x with
  | ⟨0, _⟩, (t, s) => rfl

/-- The two programs' procedures are the same. -/
theorem defs_eq : Cert.Kernel.defs (F := F) = Cert.KernelIdeal.defs (F := F) := by
  unfold Cert.Kernel.defs Cert.KernelIdeal.defs
  rw [defs₀_eq]; rfl

/-- The two host programs are the same. -/
theorem main_eq : Cert.Kernel.main (F := F) = Cert.KernelIdeal.main (F := F) := rfl

/-- The kernel runs, leaves its argument as it was and every semaphore at zero. -/
theorem frame : Cert.quiescent_Kernel := fun m g _ => by
  have h := Cert.KernelIdeal.Sample.run (F := Bits) m g
  rw [← defs_eq, ← main_eq] at h
  exact (θ_run Cert.Kernel.defs _ _).mono (fun r h => ⟨fun c => (h.1 c).2, h.2⟩) h

/-- So does the kernel over the extended reals. -/
theorem frame_ideal : Cert.quiescent_KernelIdeal := fun m g _ =>
  (θ_run Cert.KernelIdeal.defs _ _).mono (fun r h => ⟨fun c => (h.1 c).2, h.2⟩) (Cert.KernelIdeal.Sample.run (F := Ideal) m g)

end Cert.Kernel.Sample

end
-- ==== Proof.Spec.lean ====
module

public import Idealize.ShloMosaic.Lib.KernelVsHost
public import Idealize.ShloMosaic.Lib.ValueIdxCore
public import Idealize.ShloMosaic.PureOps.Ideal.Laws

@[expose] public section

/-! # The random word of a counter

Both programs draw one 32-bit word for each entry by the Threefry generator: two words are mixed by twenty rounds,
and after each four a pair of constants (of the key) is added.  This module states that mixing on a pair of words. -/

noncomputable section

namespace Cert.Sample

open Idealize.ShloMosaic

/-- One round: add the words, and mix the second, rotated, into the sum. -/
def round (l r : BitVec 32) (s : BitVec 32 × BitVec 32) : BitVec 32 × BitVec 32 :=
  (s.1 + s.2, (s.1 + s.2) ^^^ (IntOp.shli .vector s.2 l ||| IntOp.shrui .vector s.2 r))

/-- The addition of a pair of key words. -/
def inject (a b : BitVec 32) (s : BitVec 32 × BitVec 32) : BitVec 32 × BitVec 32 := (s.1 + a, s.2 + b)

/-- Four rounds with the first set of rotations. -/
def quadA (s : BitVec 32 × BitVec 32) : BitVec 32 × BitVec 32 :=
  round 6#32 26#32 (round 26#32 6#32 (round 15#32 17#32 (round 13#32 19#32 s)))

/-- Four rounds with the second set of rotations. -/
def quadB (s : BitVec 32 × BitVec 32) : BitVec 32 × BitVec 32 :=
  round 24#32 8#32 (round 16#32 16#32 (round 29#32 3#32 (round 17#32 15#32 s)))

/-- The pair of words of counter `n` under the key `(0, 42)`. -/
def threefry (n : BitVec 32) : BitVec 32 × BitVec 32 :=
  inject 466689008#32 5#32 (quadA (inject 42#32 466689012#32 (quadB (inject 0#32 45#32 (quadA
    (inject 466689008#32 2#32 (quadB (inject 42#32 466689009#32 (quadA (0#32, n + 42#32))))))))))

/-- The random word of counter `n`. -/
def word (n : BitVec 32) : BitVec 32 := (threefry n).1 ^^^ (threefry n).2

/-- The word of a float in `[1, 2)` whose fraction is the random word's top 23 bits. -/
def floatWord (n : BitVec 32) : BitVec 32 := IntOp.shrui .vector (word n) 9#32 ||| 1065353216#32

/-- The Gumbel noise of counter `n`: `-log (-log u)`, with `u` the uniform number of the counter's word, kept positive. -/
def noise (n : BitVec 32) : EReal :=
  -Ideal.log (-Ideal.log (max (Ideal.ofBits .f32 (floatWord n) - Ideal.ofBits .f32 1065353216#32) (Ideal.ofBits .f32 8388608#32)))

/-- The value that row `r` is searched by at place `k`: the noise plus the logit; `-∞` past the row's end. -/
def score (x : (⟨2, ![128, 100000]⟩ : Shape).Idx → EReal) (r : Fin 128) (k : ℕ) : EReal :=
  if h : k < 100000 then noise (BitVec.ofNat 32 (r.val * 100000 + k)) + x (ValueIdx.ix2 r ⟨k, h⟩) else ⊥

end Cert.Sample

end
-- ==== Proof.Words.lean ====
module

public import proofs.«01_k».proof.Proof.Body
public import proofs.«01_k».proof.Proof.Spec

@[expose] public section

/-! # The random words of the kernel

What the kernel's body draws at each entry of a block: the word of the counter `row · 100000 + column`. -/

noncomputable section

namespace Cert.KernelIdeal.Sample

open Cert.KernelIdeal Cert.KernelIdeal.Gen Idealize.ShloMosaic Cert.Sample

variable {F : FTy → Type} [FloatOps F]

/-- The words after the first four rounds. -/
theorem words_1 (i : grid0.Coords) (j : S128x7680.Idx) :
    (k0_pay17 i j, k0_pay18 i j) = quadA (0#32, k0_pay10 i j) := by
  have r1 : (k0_pay11 i j, k0_pay12 i j) = round 13#32 19#32 (0#32, k0_pay10 i j) := rfl
  have r2 : (k0_pay13 i j, k0_pay14 i j) = round 15#32 17#32 (k0_pay11 i j, k0_pay12 i j) := rfl
  have r3 : (k0_pay15 i j, k0_pay16 i j) = round 26#32 6#32 (k0_pay13 i j, k0_pay14 i j) := rfl
  have r4 : (k0_pay17 i j, k0_pay18 i j) = round 6#32 26#32 (k0_pay15 i j, k0_pay16 i j) := rfl
  unfold quadA
  rw [r4, r3, r2, r1]

/-- The words after the next four rounds and two additions of key words, and one more round (the second word's
    next rotation apart). -/
theorem words_2 (a b : IVec S128x7680 32) (j : S128x7680.Idx) :
    (k0_pay31 a b k0_pay19 j, k0_pay31 a b k0_pay19 j ^^^ (k0_pay32 a b k0_pay19 j ||| IntOp.shrui .vector (k0_pay30 a b k0_pay19 j) 17#32))
      = round 15#32 17#32 (round 13#32 19#32 (inject 466689008#32 2#32 (quadB (inject 42#32 466689009#32 (a j, b j))))) := by
  have r0 : (IntOp.addi (a j) (k0_pay19 j), k0_pay20 b j) = inject 42#32 466689009#32 (a j, b j) := rfl
  have r1 : (k0_pay21 a b k0_pay19 j, k0_pay22 a b k0_pay19 j) = round 17#32 15#32 (IntOp.addi (a j) (k0_pay19 j), k0_pay20 b j) := rfl
  have r2 : (k0_pay23 a b k0_pay19 j, k0_pay24 a b k0_pay19 j)
    = round 29#32 3#32 (k0_pay21 a b k0_pay19 j, k0_pay22 a b k0_pay19 j) := rfl
  have r3 : (k0_pay25 a b k0_pay19 j, k0_pay26 a b k0_pay19 j)
    = round 16#32 16#32 (k0_pay23 a b k0_pay19 j, k0_pay24 a b k0_pay19 j) := rfl
  have r4 : (IntOp.addi (k0_pay27 a b k0_pay19 j) 466689008#32, k0_pay28 a b k0_pay19 j)
    = inject 466689008#32 2#32 (round 24#32 8#32 (k0_pay25 a b k0_pay19 j, k0_pay26 a b k0_pay19 j)) := rfl
  have r5 : (k0_pay29 a b k0_pay19 j, k0_pay30 a b k0_pay19 j)
    = round 13#32 19#32 (IntOp.addi (k0_pay27 a b k0_pay19 j) 466689008#32, k0_pay28 a b k0_pay19 j) := rfl
  unfold quadB
  rw [← r0, ← r1, ← r2, ← r3, ← r4, ← r5]
  rfl

/-- The words after seven more rounds and one addition, from the words `(v85, v85 ^^^ (v87 ||| v84 >>> 17))`. -/
theorem words_3 (v84 v85 v87 : IVec S128x7680 32) (j : S128x7680.Idx) :
    (k0_pay44 v84 v85 v87 17#32 j, k0_pay44 v84 v85 v87 17#32 j ^^^ (k0_pay45 v84 v85 v87 17#32 j
        ||| IntOp.shrui .vector (k0_pay43 v84 v85 v87 17#32 j) 8#32))
      = quadB (inject 0#32 45#32 (round 6#32 26#32 (round 26#32 6#32
        (v85 j, v85 j ^^^ (v87 j ||| IntOp.shrui .vector (v84 j) 17#32))))) := by
  have r0 : (k0_pay34 v84 v85 v87 17#32 j, k0_pay35 v84 v85 v87 17#32 j)
    = round 26#32 6#32 (v85 j, v85 j ^^^ (v87 j ||| IntOp.shrui .vector (v84 j) 17#32)) := rfl
  have r1 : (IntOp.addi (k0_pay36 v84 v85 v87 17#32 j) 0#32, k0_pay37 v84 v85 v87 17#32 j)
    = inject 0#32 45#32 (round 6#32 26#32 (k0_pay34 v84 v85 v87 17#32 j, k0_pay35 v84 v85 v87 17#32 j)) := rfl
  have r2 : (k0_pay38 v84 v85 v87 17#32 j, k0_pay39 v84 v85 v87 17#32 j)
    = round 17#32 15#32 (IntOp.addi (k0_pay36 v84 v85 v87 17#32 j) 0#32, k0_pay37 v84 v85 v87 17#32 j) := rfl
  have r3 : (k0_pay40 v84 v85 v87 17#32 j, k0_pay41 v84 v85 v87 17#32 j)
    = round 29#32 3#32 (k0_pay38 v84 v85 v87 17#32 j, k0_pay39 v84 v85 v87 17#32 j) := rfl
  have r4 : (k0_pay42 v84 v85 v87 17#32 j, k0_pay43 v84 v85 v87 17#32 j)
    = round 16#32 16#32 (k0_pay40 v84 v85 v87 17#32 j, k0_pay41 v84 v85 v87 17#32 j) := rfl
  unfold quadB
  rw [← r0, ← r1, ← r2, ← r3, ← r4]
  rfl

/-- The float word from the words `(v131, v131 ^^^ (v133 ||| v130 >>> 8))` before the last four rounds. -/
theorem words_4 (v130 v131 v133 : IVec S128x7680 32) (j : S128x7680.Idx) :
    k0_pay46 (F := F) v130 v131 v133 8#32 j = FloatOps.ofBits .f32 (IntOp.shrui .vector
      ((inject 466689008#32 5#32 (quadA (inject 42#32 466689012#32
        (v131 j, v131 j ^^^ (v133 j ||| IntOp.shrui .vector (v130 j) 8#32))))).1
      ^^^ (inject 466689008#32 5#32 (quadA (inject 42#32 466689012#32
        (v131 j, v131 j ^^^ (v133 j ||| IntOp.shrui .vector (v130 j) 8#32))))).2) 9#32 ||| 1065353216#32) := rfl

/-- What the body draws at an entry: the float word of the entry's counter. -/
theorem drawn (i : grid0.Coords) (j : S128x7680.Idx) : blockFloats (F := F) i j
    = FloatOps.ofBits .f32 (floatWord (IntOp.muli (BitVec.ofNat 32 (0 * 128 + (j 0).val)) 100000#32 + k0_pay9 i j)) := by
  unfold blockFloats
  rw [words_4, words_3, words_2, words_1]
  rfl

end Cert.KernelIdeal.Sample

end
-- ==== Proof.Scores.lean ====
module

public import proofs.«01_k».proof.Proof.Run
public import proofs.«01_k».proof.Proof.Words

@[expose] public section

/-! # The scores of a block

At every entry of the block at point `t` the kernel computes the score of the entry's row and column, and `-∞` at the
columns past the array's end. -/

noncomputable section

namespace Cert.KernelIdeal.Sample

open Cert.KernelIdeal Cert.KernelIdeal.Gen Idealize.ShloMosaic Idealize.ShloMosaic.TcCoe Cert.Sample

section Block

variable {F : FTy → Type} [FloatOps F] (m : (ℓ : Loc nD τ sig) → Buf (Elt F) ℓ) (c : Dev nD)

/-- The window's index at point `t`: row block 0, column block `t`. -/
theorem window_index (t : Fin cfg0.N) : win0_0.index t 0 = 0 ∧ win0_0.index t 1 = t.val := by
  rcases fin_N0 t with rfl | rfl | rfl | rfl | rfl | rfl | rfl | rfl | rfl | rfl | rfl | rfl | rfl | rfl <;> decide

/-- A column of the block inside the array holds the array's entry. -/
theorem block_at (t : Fin cfg0.N) (j : S128x7680.Idx) (h : t.val * 7680 + (j 1).val < 100000) :
    block m c t j = m (c.tc.loc main_arg0) (ValueIdx.ix2 (j 0) ⟨t.val * 7680 + (j 1).val, h⟩) := by
  unfold block Pipeline.Window.fill
  rw [dif_pos (moved_of t j h)]
  unfold iblk
  rw [View.read_apply]
  show V m c main_arg0 _ = m (c.tc.loc main_arg0) _
  unfold V
  congr 1
  funext a
  apply Fin.ext
  match a with
  | ⟨0, _⟩ => show win0_0.index t 0 * 128 + 1 * (j 0).val = (j 0).val; rw [(window_index t).1]; omega
  | ⟨1, _⟩ => show win0_0.index t 1 * 7680 + 1 * (j 1).val = t.val * 7680 + (j 1).val; rw [(window_index t).2]; omega

/-- The counter of an entry of the block. -/
theorem counter (t : Fin cfg0.N) (j : S128x7680.Idx) : IntOp.muli (BitVec.ofNat 32 (0 * 128 + (j 0).val)) 100000#32 + k0_pay9 (grid0.coords t) j
    = BitVec.ofNat 32 ((j 0).val * 100000 + (t.val * 7680 + (j 1).val)) := by
  apply BitVec.eq_of_toNat_eq
  have h0 : (j 0).val < 128 := (j 0).isLt
  have h1 : (j 1).val < 7680 := (j 1).isLt
  have ht : t.val < 14 := N_0 ▸ t.isLt
  rw [BitVec.toNat_add, col]
  simp only [IntOp.muli, BitVec.toNat_mul, BitVec.toNat_ofNat]
  omega

/-- The Gumbel noise of a float word, in the kernel's operations. -/
def noiseOf (w : F .f32) : F .f32 :=
  FloatOps.subf (FloatOps.ofBits .f32 0#32) (FloatOps.log (FloatOps.subf (FloatOps.ofBits .f32 0#32) (FloatOps.log (FloatOps.maximumf
    (FloatOps.subf w (FloatOps.ofBits .f32 1065353216#32)) (FloatOps.ofBits .f32 8388608#32)))))

/-- The values the body searches: noise plus logit at the columns it keeps, the word of `-∞` elsewhere. -/
theorem masked_at (v3 : IVec S128x7680 32) (X w : S128x7680.Idx → Elt F .f32) (j : S128x7680.Idx) :
    k0_pay1 v3 X w j = if IntOp.cmpi .ult (v3 j) 100000#32 = 1#1 then FloatOps.addf (noiseOf (w j)) (X j) else FloatOps.ofBits .f32 0xFF800000#32 := rfl

end Block

variable (m : (ℓ : Loc nD τ sig) → Buf (Elt Ideal) ℓ) (c : Dev nD)

/-- The kernel's operations compute the noise. -/
theorem noiseOf_eq (n : BitVec 32) : noiseOf (F := Ideal) (Ideal.ofBits .f32 (floatWord n)) = noise n := by
  have h0 : Ideal.ofBits .f32 0#32 = 0 := by simp [Ideal.ofBits, Ideal.ieee]
  unfold noiseOf noise
  simp only [Ideal.subf_def, Ideal.log_def, Ideal.maximumf_def, Ideal.ofBits_def, h0, zero_sub]

/-- The values the body searches at point `t` are the row's scores. -/
theorem scores (t : Fin cfg0.N) (j : S128x7680.Idx) :
    k0_pay1 (k0_pay9 (grid0.coords t)) (block m c t) (blockFloats (grid0.coords t)) j
      = score (m (c.tc.loc main_arg0)) (j 0) (t.val * 7680 + (j 1).val) := by
  rw [masked_at, drawn, counter]
  unfold score
  by_cases h : t.val * 7680 + (j 1).val < 100000
  · rw [if_pos ((kept_iff t j).mpr h), dif_pos h, block_at m c t j h]
    exact congrArg (· + _) (noiseOf_eq _)
  · rw [if_neg (fun hk => h ((kept_iff t j).mp hk)), dif_neg h]
    show Ideal.ofBits .f32 0xFF800000#32 = ⊥
    simp [Ideal.ofBits, Ideal.ieee]

end Cert.KernelIdeal.Sample

end
-- ==== Proof.First.lean ====
module

public import Idealize.ShloMosaic.Lib.KernelVsHost

@[expose] public section

/-! # The first place of the largest value

Both programs search a row for its largest value and take the first place where it stands.  This module states that
place for a sequence over any linear order, shows that there is only one, and how it is found from the places of two
consecutive ranges or by a left fold. -/

namespace Cert.Sample

variable {α : Type*} [LinearOrder α]

/-- `k` is the first place of the largest value of `f` on the places from `a` up to, not including, `b`. -/
def First (f : ℕ → α) (a b k : ℕ) : Prop :=
  a ≤ k ∧ k < b ∧ ∀ l, a ≤ l → l < b → f l ≤ f k ∧ (f l = f k → k ≤ l)

/-- There is only one such place. -/
theorem First.unique {f : ℕ → α} {a b k l : ℕ} (hk : First f a b k) (hl : First f a b l) : k = l := by
  have h1 := hk.2.2 l hl.1 hl.2.1
  have h2 := hl.2.2 k hk.1 hk.2.1
  have e := le_antisymm h1.1 h2.1
  exact le_antisymm (h1.2 e) (h2.2 e.symm)

/-- On two consecutive ranges the place is the second's if its value is larger. -/
theorem First.append_right {f : ℕ → α} {a b c k l : ℕ} (hk : First f a b k) (hl : First f b c l) (h : f k < f l) :
    First f a c l := by
  refine ⟨hk.1.trans (hk.2.1.le.trans hl.1), hl.2.1, fun i ha hc => ?_⟩
  rcases lt_or_ge i b with hi | hi
  · have := (hk.2.2 i ha hi).1.trans_lt h
    exact ⟨this.le, fun e => absurd e this.ne⟩
  · exact hl.2.2 i hi hc

/-- On two consecutive ranges the place is the first's if the second's value is not larger. -/
theorem First.append_left {f : ℕ → α} {a b c k l : ℕ} (hk : First f a b k) (hl : First f b c l) (h : ¬ f k < f l) :
    First f a c k := by
  refine ⟨hk.1, hk.2.1.trans_le (hl.1.trans hl.2.1.le), fun i ha hc => ?_⟩
  rcases lt_or_ge i b with hi | hi
  · exact hk.2.2 i ha hi
  · exact ⟨(hl.2.2 i hi hc).1.trans (not_lt.mp h), fun _ => hk.2.1.le.trans hi⟩

/-- Places past `b` that hold the least value of the order do not change the place. -/
theorem First.cut [OrderBot α] {f g : ℕ → α} {b c k : ℕ} (hk : First g 0 c k) (hb : 0 < b) (hbc : b ≤ c)
    (hin : ∀ l, l < b → g l = f l) (hout : ∀ l, b ≤ l → g l = ⊥) : First f 0 b k := by
  have hkb : k < b := by
    by_contra hn
    have h0 := hk.2.2 0 le_rfl (hb.trans_le hbc)
    rw [hout k (not_lt.mp hn)] at h0
    have := h0.2 (le_bot_iff.mp h0.1)
    omega
  refine ⟨Nat.zero_le _, hkb, fun l h hl => ?_⟩
  have := hk.2.2 l h (hl.trans_le hbc)
  rwa [hin l hl, hin k hkb] at this

variable {β : Type*} [LinearOrder β]

/-- Of two pairs (of a value and a place) the one with the larger value, or of two equal values the one with the earlier place. -/
def better (p q : α × β) : α × β := if q.1 < p.1 ∨ (p.1 = q.1 ∧ p.2 < q.2) then p else q

/-- `p` has a value at least as large as `q`'s, and is not later if the two are equal. -/
def Leads (p q : α × β) : Prop := q.1 ≤ p.1 ∧ (q.1 = p.1 → p.2 ≤ q.2)

/-- Every pair leads itself. -/
theorem Leads.refl (p : α × β) : Leads p p := ⟨le_rfl, fun _ => le_rfl⟩

/-- A pair that leads a leader leads. -/
theorem Leads.trans {p q r : α × β} (h : Leads p q) (h' : Leads q r) : Leads p r :=
  ⟨h'.1.trans h.1, fun e => (h.2 (le_antisymm h.1 (e ▸ h'.1))).trans (h'.2 (le_antisymm h'.1 (e ▸ h.1)))⟩

/-- The better of two pairs leads the first. -/
theorem better_left (p q : α × β) : Leads (better p q) p := by
  unfold better
  split_ifs with h
  · exact Leads.refl p
  · rw [not_or, not_lt, not_and, not_lt] at h
    exact ⟨h.1, h.2⟩

/-- The better of two pairs leads the second. -/
theorem better_right (p q : α × β) : Leads (better p q) q := by
  unfold better
  split_ifs with h
  · rcases h with h | h
    · exact ⟨h.le, fun e => absurd e h.ne⟩
    · exact ⟨h.1.ge, fun _ => h.2.le⟩
  · exact Leads.refl q

/-- The left fold of `better` leads the pair it starts from and every pair of the list. -/
theorem foldl_better_leads (L : List (α × β)) (p : α × β) :
    Leads (L.foldl better p) p ∧ ∀ q ∈ L, Leads (L.foldl better p) q := by
  induction L generalizing p with
  | nil => exact ⟨Leads.refl p, fun q hq => absurd hq List.not_mem_nil⟩
  | cons a L ih =>
    obtain ⟨h, hL⟩ := ih (better p a)
    refine ⟨h.trans (better_left p a), fun q hq => ?_⟩
    rcases List.mem_cons.mp hq with rfl | hq
    · exact h.trans (better_right p q)
    · exact hL q hq

/-- The left fold of `better` is the pair it starts from or a pair of the list. -/
theorem foldl_better_mem (L : List (α × β)) (p : α × β) : L.foldl better p = p ∨ L.foldl better p ∈ L := by
  induction L generalizing p with
  | nil => exact .inl rfl
  | cons a L ih =>
    rcases ih (better p a) with h | h
    · rw [List.foldl_cons, h]
      unfold better
      split_ifs
      · exact .inl rfl
      · exact .inr List.mem_cons_self
    · exact .inr (List.mem_cons_of_mem _ h)

end Cert.Sample

end
-- ==== Proof.Search.lean ====
module

public import proofs.«01_k».proof.Proof.Scores
public import proofs.«01_k».proof.Proof.First
public import Idealize.ShloMosaic.Lib.ValueLayoutCasts

@[expose] public section

/-! # The search of one block

The body takes the largest value of each row of its block, and of the columns where it stands the smallest: the first
place of the row's largest value among the block's columns. -/

noncomputable section

namespace Cert.KernelIdeal.Sample

open Cert.KernelIdeal Cert.KernelIdeal.Gen Idealize.ShloMosaic Idealize.ShloMosaic.TcCoe Idealize.ShloMosaic.ValueIdx Cert.Sample

/-- The minimum of signed words is at most each of them, and is the first or one of them. -/
theorem fold_min {ι : Type*} (S : Finset ι) (g : ι → BitVec 32) (z : BitVec 32) :
    (∀ k ∈ S, (S.fold IntOp.minsi z g).toInt ≤ (g k).toInt) ∧ (S.fold IntOp.minsi z g = z ∨ ∃ k ∈ S, S.fold IntOp.minsi z g = g k) := by
  classical
  induction S using Finset.induction_on with
  | empty => exact ⟨fun k hk => absurd hk (Finset.notMem_empty k), .inl rfl⟩
  | insert a S ha ih =>
    rw [Finset.fold_insert ha]
    generalize S.fold IntOp.minsi z g = W at ih ⊢
    by_cases h : (g a).toInt < W.toInt
    · have e : IntOp.minsi (g a) W = g a := if_pos (BitVec.slt_iff_toInt_lt.mpr h)
      rw [e]
      refine ⟨fun k hk => ?_, .inr ⟨a, Finset.mem_insert_self a S, rfl⟩⟩
      rcases Finset.mem_insert.mp hk with rfl | hk
      · exact le_rfl
      · exact h.le.trans (ih.1 k hk)
    · have e : IntOp.minsi (g a) W = W := if_neg (fun h' => h (BitVec.slt_iff_toInt_lt.mp h'))
      rw [e]
      refine ⟨fun k hk => ?_, ih.2.imp_right fun ⟨k, hk, h'⟩ => ⟨k, Finset.mem_insert_of_mem hk, h'⟩⟩
      rcases Finset.mem_insert.mp hk with rfl | hk
      · exact not_lt.mp h
      · exact ih.1 k hk

/-- The largest value of a row of values, and the smallest column where it stands, are the value and the place of the
    first of the largest. -/
theorem first_of_folds (f : ℕ → EReal) (a n : ℕ) (hn : 0 < n) (ha : a + n < 2147483647) (v : Fin n → EReal) (p : Fin n → BitVec 32)
    (hv : ∀ k, v k = f (a + k.val)) (hp : ∀ k, p k = BitVec.ofNat 32 (a + k.val)) :
    ∃ k, First f a (a + n) k ∧ Finset.univ.fold max ⊥ v = f k
      ∧ Finset.univ.fold IntOp.minsi 2147483647#32 (fun k => if v k = Finset.univ.fold max ⊥ v then p k else 2147483647#32) = BitVec.ofNat 32 k := by
  have hM : Finset.univ.fold max ⊥ v = Finset.univ.sup v := rfl
  rw [hM]
  have hle : ∀ k, v k ≤ Finset.univ.sup v := fun k => Finset.le_sup (Finset.mem_univ k)
  obtain ⟨k0, -, hk0⟩ := Finset.exists_mem_eq_sup Finset.univ ⟨⟨0, hn⟩, Finset.mem_univ _⟩ v
  have hto : ∀ k, (p k).toInt = a + k.val := fun k => by
    have e : (p k).toNat = a + k.val := by
      rw [hp, BitVec.toNat_ofNat]; exact Nat.mod_eq_of_lt (by omega)
    rw [BitVec.toInt_eq_toNat_of_lt (by omega), e]; push_cast; rfl
  obtain ⟨hmin, hmem⟩ := fold_min Finset.univ (fun k => if v k = Finset.univ.sup v then p k else 2147483647#32) 2147483647#32
  generalize Finset.univ.fold IntOp.minsi 2147483647#32 (fun k => if v k = Finset.univ.sup v then p k else 2147483647#32) = W at hmin hmem ⊢
  have hat : ∀ k, v k = Finset.univ.sup v → W.toInt ≤ a + k.val := fun k hk => by
    have := hmin k (Finset.mem_univ k)
    rwa [if_pos hk, hto] at this
  have hbig : W ≠ 2147483647#32 := fun e => by
    have := hat k0 hk0.symm
    rw [e, show (2147483647#32 : BitVec 32).toInt = 2147483647 by decide] at this
    omega
  obtain ⟨k, hk, hW⟩ : ∃ k, v k = Finset.univ.sup v ∧ W = p k := by
    rcases hmem with h | ⟨k, -, h⟩
    · exact absurd h hbig
    · by_cases hk : v k = Finset.univ.sup v
      · exact ⟨k, hk, h.trans (if_pos hk)⟩
      · exact absurd (h.trans (if_neg hk)) hbig
  refine ⟨a + k.val, ⟨Nat.le_add_right _ _, by omega, fun l h1 h2 => ?_⟩, by rw [← hv, hk], by rw [hW, hp]⟩
  obtain ⟨i, rfl⟩ : ∃ i, l = a + i := ⟨l - a, by omega⟩
  have hi := hv ⟨i, by omega⟩
  rw [show f (a + i) = v ⟨i, by omega⟩ from hi.symm, ← hv k, hk]
  refine ⟨hle _, fun e => ?_⟩
  have := hat _ e
  rw [hW, hto] at this
  simp only at this
  omega

/-- The largest value of row `r`, as the body computes it. -/
theorem row_max (v3 : IVec S128x7680 32) (X w : S128x7680.Idx → Elt Ideal .f32) (r : Fin 128) :
    k0_pay2 v3 X w (ix2 r 0) = Finset.univ.fold max ⊥ (fun k : Fin 7680 => k0_pay1 v3 X w (ix2 r k)) := by
  unfold k0_pay2
  refine (shapeCast_a_a1_apply _ shapeCasts_S128_S128x1 r 0).trans ?_
  refine (Ideal.multiReduction_maximumf_single _ _ _ _ _ _).trans ?_
  rw [show FloatOps.ofBits (F := Ideal) .f32 0xFF800000#32 = ⊥ from by
    show Ideal.ofBits .f32 0xFF800000#32 = ⊥
    simp [Ideal.ofBits, Ideal.ieee]]
  refine congrArg (Finset.fold max ⊥ · _) (funext fun k => congrArg (k0_pay1 v3 X w) (funext fun a => ?_))
  match a with
  | ⟨0, _⟩ => rfl
  | ⟨1, _⟩ => rfl

/-- What the body takes the smallest of: the column where the value is the row's largest, a large word elsewhere. -/
def candidates (v3 : IVec S128x7680 32) (X w : S128x7680.Idx → Elt Ideal .f32) : IVec S128x7680 32 :=
  select (cmpf .oeq (k0_pay1 v3 X w) (broadcastTo S128x7680 (k0_pay2 v3 X w) broadcasts_S128x1_S128x7680)) v3
    (broadcast S128x7680 2147483647#32)

/-- It at an entry. -/
theorem candidates_at (v3 : IVec S128x7680 32) (X w : S128x7680.Idx → Elt Ideal .f32) (r : Fin 128) (k : Fin 7680) :
    candidates v3 X w (ix2 r k) = if k0_pay1 v3 X w (ix2 r k) = k0_pay2 v3 X w (ix2 r 0) then v3 (ix2 r k) else 2147483647#32 := by
  have hb : broadcastTo S128x7680 (k0_pay2 v3 X w) broadcasts_S128x1_S128x7680 (ix2 r k) = k0_pay2 v3 X w (ix2 r 0) :=
    broadcastTo_apply _ _ _ _ fun a => by
      match a with
      | ⟨0, _⟩ => rfl
      | ⟨1, _⟩ => rfl
  show Scalar.select (Ideal.cmp .oeq (k0_pay1 v3 X w (ix2 r k)) (broadcastTo S128x7680 (k0_pay2 v3 X w) broadcasts_S128x1_S128x7680
    (ix2 r k))) (v3 (ix2 r k)) 2147483647#32 = _
  rw [hb]
  unfold Scalar.select Ideal.cmp
  by_cases h : k0_pay1 v3 X w (ix2 r k) = k0_pay2 v3 X w (ix2 r 0) <;> simp [h]

/-- The smallest column of row `r` where the largest value stands, as the body computes it. -/
theorem row_place (v3 : IVec S128x7680 32) (X w : S128x7680.Idx → Elt Ideal .f32) (r : Fin 128) :
    k0_pay3 v3 X w (ix2 r 0) = Finset.univ.fold IntOp.minsi 2147483647#32 (fun k : Fin 7680 =>
      if k0_pay1 v3 X w (ix2 r k) = k0_pay2 v3 X w (ix2 r 0) then v3 (ix2 r k) else 2147483647#32) := by
  unfold k0_pay3
  refine (shapeCast_a_a1_apply _ shapeCasts_S128_S128x1 r 0).trans ?_
  refine (multiReductionI_eq_fold _ _ _ _ _ _).trans ?_
  refine ((reduces_S128x7680_S128 : S128x7680.Reduces [1] S128).fold_filter_drop_single _ _ _ _).trans ?_
  refine congrArg (Finset.fold IntOp.minsi 2147483647#32 · _) (funext fun (k : Fin 7680) => ?_)
  refine (congrArg (candidates v3 X w) (funext fun a => ?_)).trans (candidates_at v3 X w r k)
  match a with
  | ⟨0, _⟩ => rfl
  | ⟨1, _⟩ => rfl

variable (m : (ℓ : Loc nD τ sig) → Buf (Elt Ideal) ℓ) (c : Dev nD)

/-- The column of an entry of the block, as a word. -/
theorem column (t : Fin cfg0.N) (j : S128x7680.Idx) : k0_pay9 (grid0.coords t) j = BitVec.ofNat 32 (t.val * 7680 + (j 1).val) := by
  apply BitVec.eq_of_toNat_eq
  have h1 : (j 1).val < 7680 := (j 1).isLt
  have ht : t.val < 14 := N_0 ▸ t.isLt
  rw [col, BitVec.toNat_ofNat]
  omega

/-- What the body finds in row `r` of the block at point `t`: the first of the largest scores among the block's columns. -/
theorem block_first (t : Fin cfg0.N) (r : Fin 128) :
    ∃ k, First (score (m (c.tc.loc main_arg0)) r) (t.val * 7680) (t.val * 7680 + 7680) k
      ∧ k0_pay2 (k0_pay9 (grid0.coords t)) (block m c t) (blockFloats (grid0.coords t)) (ix2 r 0) = score (m (c.tc.loc main_arg0)) r k
      ∧ k0_pay3 (k0_pay9 (grid0.coords t)) (block m c t) (blockFloats (grid0.coords t)) (ix2 r 0) = BitVec.ofNat 32 k := by
  have ht : t.val < 14 := N_0 ▸ t.isLt
  obtain ⟨k, h1, h2, h3⟩ := first_of_folds (score (m (c.tc.loc main_arg0)) r) (t.val * 7680) 7680 (by norm_num) (by omega)
    (fun k => k0_pay1 (k0_pay9 (grid0.coords t)) (block m c t) (blockFloats (grid0.coords t)) (ix2 r k))
    (fun k => k0_pay9 (grid0.coords t) (ix2 r k)) (fun k => scores m c t (ix2 r k)) (fun k => column t (ix2 r k))
  exact ⟨k, h1, (row_max _ _ _ r).trans h2, by rw [row_place, row_max]; exact h3⟩

end Cert.KernelIdeal.Sample

end
-- ==== Proof.Sampled.lean ====
module

public import proofs.«01_k».proof.Proof.Search
public import proofs.«01_k».proof.Proof.Result

@[expose] public section

/-! # The result of the kernel

After each block the two scratch buffers hold, at each row, the largest score so far and its first column; after the last
block that is the first place of the row's largest score. -/

noncomputable section

namespace Cert.KernelIdeal.Sample

open Cert.KernelIdeal Cert.KernelIdeal.Gen Idealize.ShloMosaic Idealize.ShloMosaic.TcCoe Idealize.ShloMosaic.ValueIdx Cert.Sample

/-- The best values after the first block are the block's. -/
theorem newBest_first (i : grid0.Coords) (h : (i 0).val = 0) (X B) : newBest (F := Ideal) i X B = k0_pay2 (k0_pay9 i) X (blockFloats i) := by
  unfold newBest k0_pay4
  rw [if_pos h]
  exact shapeCast_self _ _

/-- The best columns after the first block are the block's. -/
theorem newIdx_first (i : grid0.Coords) (h : (i 0).val = 0) (X B I) : newIdx (F := Ideal) i X B I = k0_pay3 (k0_pay9 i) X (blockFloats i) := by
  unfold newIdx k0_pay5
  rw [if_pos h]
  exact shapeCast_self _ _

/-- A choice by `B < V`, at an index. -/
theorem larger_at {α : Type} (V B : FVec Ideal S128x1 .f32) (W I : S128x1.Idx → α) (h : S128x1.ShapeCasts S128x1) (j : S128x1.Idx) :
    shapeCast S128x1 (select (cmpf .ogt V B) W I) h j = if (B j : EReal) < V j then W j else I j := by
  rw [shapeCast_self, select_apply]
  show Scalar.select (Ideal.cmp .ogt (V j) (B j)) _ _ = _
  unfold Scalar.select Ideal.cmp
  by_cases h : (B j : EReal) < V j <;> simp [h]

/-- After a later block the best value of a row is the block's if that is larger. -/
theorem newBest_next (i : grid0.Coords) (h : ¬ (i 0).val = 0) (X B) (j : S128x1.Idx) : newBest (F := Ideal) i X B j
    = if (B j : EReal) < k0_pay2 (k0_pay9 i) X (blockFloats i) j then k0_pay2 (k0_pay9 i) X (blockFloats i) j else B j := by
  unfold newBest k0_pay8 k0_pay6
  rw [if_neg h]
  exact larger_at _ _ _ _ _ j

/-- After a later block the best column of a row is the block's if its value is larger. -/
theorem newIdx_next (i : grid0.Coords) (h : ¬ (i 0).val = 0) (X B I) (j : S128x1.Idx) : newIdx (F := Ideal) i X B I j
    = if (B j : EReal) < k0_pay2 (k0_pay9 i) X (blockFloats i) j then k0_pay3 (k0_pay9 i) X (blockFloats i) j else I j := by
  unfold newIdx k0_pay7 k0_pay6
  rw [if_neg h]
  exact larger_at _ _ _ _ _ j

variable (m : (ℓ : Loc nD τ sig) → Buf (Elt Ideal) ℓ) (c : Dev nD)

/-- After `n + 1` blocks: the first of the largest scores of row `r` among their columns, its value and its column. -/
theorem best_first (r : Fin 128) (n : ℕ) (hn : n < 14) :
    ∃ k, First (score (m (c.tc.loc main_arg0)) r) 0 ((n + 1) * 7680) k
      ∧ best m c (n + 1) (ix2 r 0) = score (m (c.tc.loc main_arg0)) r k ∧ bestIdx m c (n + 1) (ix2 r 0) = BitVec.ofNat 32 k := by
  induction n with
  | zero =>
    have hN : 0 < cfg0.N := lt_of_lt_of_eq hn N_0.symm
    obtain ⟨k, hk, hv, hp⟩ := block_first m c ⟨0, hN⟩ r
    rw [best, bestIdx, dif_pos hN, dif_pos hN, newBest_first _ (coord ⟨0, hN⟩), newIdx_first _ (coord ⟨0, hN⟩)]
    rw [show (⟨0, hN⟩ : Fin cfg0.N).val * 7680 = 0 from Nat.zero_mul _, show 0 + 7680 = (0 + 1) * 7680 by norm_num] at hk
    exact ⟨k, hk, hv, hp⟩
  | succ n ih =>
    have hN : n + 1 < cfg0.N := lt_of_lt_of_eq hn N_0.symm
    obtain ⟨k, hk, hv, hp⟩ := block_first m c ⟨n + 1, hN⟩ r
    obtain ⟨l, hl, hlv, hlp⟩ := ih (Nat.lt_of_succ_lt hn)
    have h0 : ¬ (grid0.coords ⟨n + 1, hN⟩ 0).val = 0 := fun h => Nat.succ_ne_zero n ((coord ⟨n + 1, hN⟩).symm.trans h)
    have hk2 : First (score (m (c.tc.loc main_arg0)) r) ((n + 1) * 7680) ((n + 1 + 1) * 7680) k := by
      rw [show (n + 1 + 1) * 7680 = (n + 1) * 7680 + 7680 by ring]; exact hk
    rw [best, bestIdx, dif_pos hN, dif_pos hN, newBest_next _ h0, newIdx_next _ h0, hv, hp, hlv, hlp]
    by_cases hlt : score (m (c.tc.loc main_arg0)) r l < score (m (c.tc.loc main_arg0)) r k
    · exact ⟨k, hl.append_right hk2 hlt, if_pos hlt, if_pos hlt⟩
    · exact ⟨l, hl.append_left hk2 hlt, if_neg hlt, if_neg hlt⟩

/-- The kernel's result at each row: the first place of the row's largest score. -/
theorem sampled_first (j : S128.Idx) : ∃ k, First (score (m (c.tc.loc main_arg0)) (j 0)) 0 100000 k
    ∧ sampled m c j = BitVec.ofNat 32 k := by
  obtain ⟨k, hk, -, hp⟩ := best_first m c (j 0) 13 (by norm_num)
  refine ⟨k, hk.cut (by norm_num) (by norm_num) (fun _ _ => rfl) (fun l hl => ?_), ?_⟩
  · unfold score; rw [dif_neg (by omega)]
  · unfold sampled
    refine (shapeCast_apply _ _ j (ix2 (j 0) 0) ?_).trans hp
    rw [Shape.rowMajor_val_two, Shape.rowMajor_val_one]
    show (j 0).val * 1 + 0 = (j 0).val
    omega

end Cert.KernelIdeal.Sample

end
-- ==== Proof.RefLine.lean ====
module

public import proofs.«01_k».proof.Defs
public import proofs.«01_k».proof.Proof.Gen.ReferenceIdeal
public import Idealize.ShloMosaic.Lib.StableHlo.RunHlo
public import Idealize.ShloMosaic.Lib.StableHlo.RunRead
public import Idealize.ShloMosaic.Lib.Quiescent

@[expose] public section

/-! # The reference as a line of operations

The reference is a straight line of host operations.  This module reads the list of them off the program, states the
run (every buffer ends at what the list leaves there), and gives the equation each operation satisfies at the end of
the run: as no buffer is written twice, and none is written after it was read, the final contents satisfy
`result = f operands` for every operation of the line. -/

noncomputable section

namespace Cert.ReferenceIdeal.Sample

open Idealize.ShloMosaic Idealize.ShloMosaic.TcCoe Idealize.SL.Sem Idealize.ShloMosaic.StableHlo Cert.ReferenceIdeal

attribute [local instance] Cert.ReferenceIdeal.Gen.facts

variable {F : FTy → Type} [FloatOps F]

/-- The operations of the reference, in order, read off the program. -/
def program : { ops : List (HloOp τ sig (Elt F)) // ∀ c, IsSeq (main (F := F) c) ops } := by
  apply Subtype.mk
  · hlo_seq

/-- The list of the reference's operations. -/
def line : List (HloOp τ sig (Elt F)) := program.1

/-- A list of references each of which is what the operation at the same place writes, and writes alone, and whose
operations touch device tensors only. -/
inductive Writes : List (HloOp τ sig (Elt F)) → List (Ref sig .tc) → Prop
  | nil : Writes [] []
  | cons {op ops r rs} (h : op.writes = {Proc.devRef .tc r}) (hb : op.bufs ⊆ tcRefs τ sig) (hf : op.fresh = ∅)
      (t : Writes ops rs) : Writes (op :: ops) (r :: rs)

section Builders

variable {ops : List (HloOp τ sig (Elt F))} {rs : List (Ref sig .tc)}

/-- `Writes` past an operation without operands. -/
theorem Writes.nullary {y v hy} (t : Writes (F := F) ops rs) : Writes (StableHlo.nullary y v hy :: ops) (y :: rs) :=
  .cons rfl (by simp) rfl t
/-- `Writes` past an operation of one operand. -/
theorem Writes.unary {x y f hx hy} (t : Writes (F := F) ops rs) : Writes (StableHlo.unary x y f hx hy :: ops) (y :: rs) :=
  .cons rfl (by simp) rfl t
/-- `Writes` past an operation of two operands. -/
theorem Writes.binary {a b y f ha hb hy} (t : Writes (F := F) ops rs) :
    Writes (StableHlo.binary a b y f ha hb hy :: ops) (y :: rs) := .cons rfl (by simp) rfl t
/-- `Writes` past an operation of four operands. -/
theorem Writes.quaternary {a b c e y f ha hb hc he hy} (t : Writes (F := F) ops rs) :
    Writes (StableHlo.quaternary a b c e y f ha hb hc he hy :: ops) (y :: rs) := .cons rfl (by simp) rfl t
/-- `Writes` past a reshape. -/
theorem Writes.reshape {x y he hn hx hy} (t : Writes (F := F) ops rs) :
    Writes (StableHlo.reshape x y he hn hx hy :: ops) (y :: rs) := .cons rfl (by simp) rfl t

end Builders

/-- The buffers the line writes, one for each operation, in order. -/
def writes : { rs : List (Ref sig .tc) // ∀ (F : FTy → Type) [FloatOps F], Writes (F := F) line rs } := by
  apply Subtype.mk
  · intro F _
    show Writes program.1 _
    unfold program
    repeat (first | exact .nil | apply Writes.binary | apply Writes.unary | apply Writes.nullary | apply Writes.reshape | apply Writes.quaternary)

/-- The references the line writes, in order. -/
def outs : List (Ref sig .tc) := writes.1

/-- Dropping as many references as operations keeps `Writes`. -/
theorem Writes.drop {ops : List (HloOp τ sig (Elt F))} {rs : List (Ref sig .tc)} (h : Writes ops rs) :
    ∀ n, Writes (ops.drop n) (rs.drop n) := by
  induction h with
  | nil => intro n; simpa using Writes.nil
  | cons h hb hf t ih =>
    intro n
    cases n with
    | zero => exact .cons h hb hf t
    | succ n => exact ih n

/-- The write sets of a line are the singletons of its list of references. -/
theorem Writes.map {ops : List (HloOp τ sig (Elt F))} {rs : List (Ref sig .tc)} (h : Writes ops rs) :
    ops.map HloOp.writes = rs.map fun r => {Proc.devRef (τ := τ) .tc r} := by
  induction h with
  | nil => rfl
  | cons h hb hf t ih => simp only [List.map_cons, h, ih]

/-- A line's operations touch device tensors only. -/
theorem Writes.bufs {ops : List (HloOp τ sig (Elt F))} {rs : List (Ref sig .tc)} (h : Writes ops rs) :
    ∀ op ∈ ops, op.bufs ⊆ tcRefs τ sig := by
  induction h with
  | nil => intro op h; cases h
  | cons h hb hf t ih =>
    intro op hop
    cases hop with
    | head => exact hb
    | tail _ h => exact ih op h

/-- A line's operations leave no buffer without determined contents. -/
theorem Writes.fresh {ops : List (HloOp τ sig (Elt F))} {rs : List (Ref sig .tc)} (h : Writes ops rs) :
    ∀ op ∈ ops, op.fresh = ∅ := by
  induction h with
  | nil => intro op h; cases h
  | cons h hb hf t ih =>
    intro op hop
    cases hop with
    | head => exact hf
    | tail _ h => exact ih op h

/-- Each operation of the line writes the buffer listed for it. -/
theorem line_writes : Writes (F := F) line outs := writes.2 F

/-! ## The run -/

variable (m : (ℓ : Loc nD τ sig) → Buf (Elt F) ℓ) (ρ : Dev nD → PrngReg)

/-- What every device tensor holds at the end of the run. -/
def final (c : Dev nD) : Valuation τ sig (Elt F) := after line (launchContents m c)

/-- The reference runs, every device tensor ends at what the line leaves there, and every counter is zero. -/
theorem run : θ_run (defs (F := F)) (onTc (τ := τ) (main (F := F))) ⟨m, fun _ => 0, ρ⟩ (fun r =>
    (∀ (c : Dev nD) (b : Ref sig .tc), r.2.mem ((c.tc : Thread nD τ).loc b) = final m c (Proc.devRef .tc b))
      ∧ r.2.sem = fun _ => 0) :=
  θ_run_mono (run_hlo (defs (F := F)) (main (F := F)) (ops := line) program.2 (by decide) (by decide)
    (List.forall_iff_forall_mem.mpr line_writes.bufs) line_writes.fresh m ρ)
    fun _ h => ⟨h, sem_eq_zero_of_no_sems rfl _⟩

/-- The argument is not written. -/
theorem final_arg (c : Dev nD) : final m c (Proc.devRef .tc main_arg0) = m ((c.tc : Thread nD τ).loc main_arg0) :=
  after_unwritten outs line_writes.map (by decide +kernel) _

/-! ## The equations of the line -/

variable (c : Dev nD)

/-- Before the operation at place `i` a buffer none of the later operations writes holds what it holds at the end. -/
theorem upto_eq {i : ℕ} {r : Ref sig .tc} (h : r ∉ outs.drop i) :
    upto line (launchContents m c) i (Proc.devRef .tc r) = final m c (Proc.devRef .tc r) := by
  have e : final m c = after (line.drop i) (upto line (launchContents m c) i) := by
    unfold final upto
    generalize launchContents m c = V
    generalize line (F := F) = ops
    clear h
    induction ops generalizing i V with
    | nil => simp
    | cons op l ih =>
      cases i with
      | zero => rfl
      | succ n => exact ih _
  rw [e]
  exact (after_unwritten _ (line_writes.drop i).map h _).symm

/-- What a typed tensor holds at the end of the run. -/
def get {T : BufTy} (x : TRef sig T) : T.Contents (Elt F) := x.ofBuf (final m c (Proc.devRef .tc x.ref))

/-- The buffers listed with a place are not written from that place on. -/
abbrev Settled (l : List (ℕ × Ref sig .tc)) : Prop := ∀ x ∈ l, x.2 ∉ outs.drop x.1

/-- A buffer that is not written from operation `i` on is not written from a later one on. -/
theorem not_mem_drop {i k : ℕ} (hk : i ≤ k) {r : Ref sig .tc} (h : r ∉ outs.drop i) : r ∉ outs.drop k := fun hm => by
  obtain ⟨d, rfl⟩ := Nat.exists_eq_add_of_le hk
  rw [← List.drop_drop] at hm
  exact h (List.mem_of_mem_drop hm)

/-- At the end a buffer holds what the operation at its place left there. -/
theorem final_eq {i : ℕ} {r : Ref sig .tc} {op : HloOp τ sig (Elt F)} {rest} (hs : line.drop i = op :: rest)
    (h : r ∉ outs.drop (i + 1)) :
    final m c (Proc.devRef .tc r) = op.result (upto line (launchContents m c) i) (Proc.devRef .tc r) := by
  have hr : line.drop (i + 1) = rest := by rw [← List.drop_drop, hs]; rfl
  exact after_last_write _ hs (hr ▸ (line_writes.drop (i + 1)).map) h _

/-- What an operation without operands leaves at its result. -/
theorem final_nullary {i : ℕ} {y : Ref sig .tc} {v hy} {rest} (hs : line (F := F).drop i = StableHlo.nullary y v hy :: rest)
    (h : y ∉ outs.drop (i + 1)) : final m c (Proc.devRef .tc y) = v := by
  rw [final_eq m c hs h, nullary_result]

/-- What an operation of one operand leaves at its result. -/
theorem final_unary {i : ℕ} {x y : Ref sig .tc} {f hx hy} {rest} (hs : line (F := F).drop i = StableHlo.unary x y f hx hy :: rest)
    (h : x ∉ outs.drop i ∧ y ∉ outs.drop (i + 1)) : final m c (Proc.devRef .tc y) = f (final m c (Proc.devRef .tc x)) := by
  rw [final_eq m c hs h.2, unary_result, upto_eq m c h.1]

/-- What an operation of two operands leaves at its result. -/
theorem final_binary {i : ℕ} {a b y : Ref sig .tc} {f ha hb hy} {rest}
    (hs : line (F := F).drop i = StableHlo.binary a b y f ha hb hy :: rest)
    (h : a ∉ outs.drop i ∧ b ∉ outs.drop i ∧ y ∉ outs.drop (i + 1)) :
    final m c (Proc.devRef .tc y) = f (final m c (Proc.devRef .tc a)) (final m c (Proc.devRef .tc b)) := by
  rw [final_eq m c hs h.2.2, binary_result, upto_eq m c h.1, upto_eq m c h.2.1]

/-- What an operation of four operands leaves at its result. -/
theorem final_quaternary {i : ℕ} {a b d e y : Ref sig .tc} {f ha hb hd he hy} {rest}
    (hs : line (F := F).drop i = StableHlo.quaternary a b d e y f ha hb hd he hy :: rest)
    (h : a ∉ outs.drop i ∧ b ∉ outs.drop i ∧ d ∉ outs.drop i ∧ e ∉ outs.drop i ∧ y ∉ outs.drop (i + 1)) :
    final m c (Proc.devRef .tc y) = f (final m c (Proc.devRef .tc a)) (final m c (Proc.devRef .tc b)) (final m c (Proc.devRef .tc d))
      (final m c (Proc.devRef .tc e)) := by
  rw [final_eq m c hs h.2.2.2.2, quaternary_result, upto_eq m c h.1, upto_eq m c h.2.1, upto_eq m c h.2.2.1, upto_eq m c h.2.2.2.1]

/-- What a reshape leaves at its result. -/
theorem final_reshape {i : ℕ} {x y : Ref sig .tc} {he hn hx hy} {rest}
    (hs : line (F := F).drop i = StableHlo.reshape x y he hn hx hy :: rest) (h : x ∉ outs.drop i ∧ y ∉ outs.drop (i + 1)) :
    final m c (Proc.devRef .tc y) = fun i => he ▸ shapeCast y.ty.shape (final m c (Proc.devRef .tc x)) hn i := by
  rw [final_eq m c hs h.2, reshape_result, upto_eq m c h.1]

/-- The equation of an operation without operands. -/
theorem get_nullary {i : ℕ} {Ty : BufTy} {y : TRef sig Ty} {v} {rest} (hs : line (F := F).drop i = TRef.nullary y v :: rest)
    (hy : y.ref ∉ outs.drop (i + 1)) : get m c y = v := by
  unfold get
  rw [final_nullary m c hs hy]
  exact cast_cast _ _ _

/-- The equation of an operation of one operand. -/
theorem get_unary {i : ℕ} {Tx Ty : BufTy} {x : TRef sig Tx} {y : TRef sig Ty} {f} {rest}
    (hs : line (F := F).drop i = TRef.unary x y f :: rest)
    (hx : x.ref ∉ outs.drop i) (hy : y.ref ∉ outs.drop (i + 1)) : get m c y = f (get m c x) := by
  unfold get
  rw [final_unary m c hs ⟨hx, hy⟩]
  exact cast_cast _ _ _

/-- The equation of an operation of two operands. -/
theorem get_binary {i : ℕ} {Ta Tb Ty : BufTy} {a : TRef sig Ta} {b : TRef sig Tb} {y : TRef sig Ty} {f} {rest}
    (hs : line (F := F).drop i = TRef.binary a b y f :: rest)
    (ha : a.ref ∉ outs.drop i) (hb : b.ref ∉ outs.drop i) (hy : y.ref ∉ outs.drop (i + 1)) :
    get m c y = f (get m c a) (get m c b) := by
  unfold get
  rw [final_binary m c hs ⟨ha, hb, hy⟩]
  exact cast_cast _ _ _

end Cert.ReferenceIdeal.Sample

end
-- ==== Proof.RefBits.lean ====
module

public import proofs.«01_k».proof.Proof.RefLine
public import proofs.«01_k».proof.Proof.Spec
public import Idealize.ShloMosaic.Lib.Pointwise

@[expose] public section

/-! # The random words of the reference

What the reference's generator leaves at each entry: the word of the counter `row · 100000 + column`. -/

noncomputable section

namespace Cert.ReferenceIdeal.Sample

open Idealize.ShloMosaic Idealize.ShloMosaic.TcCoe Idealize.SL.Sem Idealize.ShloMosaic.StableHlo Cert.ReferenceIdeal Cert.Sample

attribute [local instance] Cert.ReferenceIdeal.Gen.facts

variable {F : FTy → Type} [FloatOps F] (m : (ℓ : Loc nD τ sig) → Buf (Elt F) ℓ) (c : Dev nD)

/-- The rest of a line after its first operations. -/
theorem line_tail {i : ℕ} {op : HloOp τ sig (Elt F)} {rest} (h : line.drop i = op :: rest) : line.drop (i + 1) = rest := by
  rw [← List.drop_drop, h]; rfl

/-- The pair of words two tensors hold at an entry. -/
def pair (a b : TRef sig ⟨S128x100000, .i32⟩) (j : S128x100000.Idx) : BitVec 32 × BitVec 32 := (get m c a j, get m c b j)

/-- The nine operations of a round take the pair of words to `round` of it. -/
theorem pair_round (i : ℕ) {p q a b v1 s1 v2 s2 o : TRef sig ⟨S128x100000, .i32⟩} {c1 c2 : TRef sig ⟨S_, .i32⟩} {l r : BitVec 32} {rest}
    (hs : line (F := F).drop i = TRef.binary p q a addi
      :: TRef.nullary c1 (constantI S_ 32 l) :: TRef.unary c1 v1 (broadcastInDim S128x100000 ![] Facts₀.bcast_S_S128x100000)
      :: TRef.binary q v1 s1 Host.shli
      :: TRef.nullary c2 (constantI S_ 32 r) :: TRef.unary c2 v2 (broadcastInDim S128x100000 ![] Facts₀.bcast_S_S128x100000)
      :: TRef.binary q v2 s2 Host.shrui :: TRef.binary s1 s2 o ori :: TRef.binary a o b xori :: rest)
    (h : Settled [(i, p.ref), (i, q.ref), (i + 1, a.ref), (i + 2, c1.ref), (i + 3, v1.ref), (i + 4, s1.ref), (i + 5, c2.ref),
      (i + 6, v2.ref), (i + 7, s2.ref), (i + 8, o.ref), (i + 9, b.ref)]) (j : S128x100000.Idx) :
    pair m c a b j = round l r (pair m c p q j) := by
  simp only [Settled, List.forall_mem_cons, List.not_mem_nil, false_imp_iff, implies_true, and_true] at h
  obtain ⟨hp, hq, ha, hc1, hv1, hs1, hc2, hv2, hs2, ho, hb⟩ := h
  have h1 := line_tail hs
  have h2 := line_tail h1
  have h3 := line_tail h2
  have h4 := line_tail h3
  have h5 := line_tail h4
  have h6 := line_tail h5
  have h7 := line_tail h6
  have h8 := line_tail h7
  have e1 := get_binary m c hs hp hq ha
  have e2 := get_nullary m c h1 hc1
  have e3 := get_unary m c h2 hc1 hv1
  have e4 := get_binary m c h3 (not_mem_drop (by omega) hq) hv1 hs1
  have e5 := get_nullary m c h4 hc2
  have e6 := get_unary m c h5 hc2 hv2
  have e7 := get_binary m c h6 (not_mem_drop (by omega) hq) hv2 hs2
  have e8 := get_binary m c h7 (not_mem_drop (by omega) hs1) hs2 ho
  have e9 := get_binary m c h8 (not_mem_drop (by omega) ha) ho hb
  unfold pair
  rw [e9, e8, e7, e6, e5, e4, e3, e2, e1]
  refine Prod.ext rfl ?_
  show (get m c p j + get m c q j) ^^^ (IntOp.shli .host (get m c q j) l ||| IntOp.shrui .host (get m c q j) r) = _
  rw [shli_unit .host .vector, shrui_unit .host .vector]
  rfl

/-- The seven operations after four rounds add a key word to each of the pair, and a number to the second. -/
theorem pair_inject (i : ℕ) {p q a b v w t u : TRef sig ⟨S128x100000, .i32⟩} {kA kB c1 : TRef sig ⟨S_, .i32⟩} {n : BitVec 32} {rest}
    (hs : line (F := F).drop i = TRef.unary kA v (broadcastInDim S128x100000 ![] Facts₀.bcast_S_S128x100000)
      :: TRef.binary p v a addi
      :: TRef.unary kB w (broadcastInDim S128x100000 ![] Facts₀.bcast_S_S128x100000) :: TRef.binary q w t addi
      :: TRef.nullary c1 (constantI S_ 32 n) :: TRef.unary c1 u (broadcastInDim S128x100000 ![] Facts₀.bcast_S_S128x100000)
      :: TRef.binary t u b addi :: rest)
    (h : Settled [(i, kA.ref), (i, kB.ref), (i, p.ref), (i, q.ref), (i + 1, v.ref), (i + 2, a.ref), (i + 3, w.ref), (i + 4, t.ref),
      (i + 5, c1.ref), (i + 6, u.ref), (i + 7, b.ref)])
    {x y : BitVec 32} (hx : get m c kA = fun _ => x) (hy : get m c kB = fun _ => y) (j : S128x100000.Idx) :
    pair m c a b j = inject x (y + n) (pair m c p q j) := by
  simp only [Settled, List.forall_mem_cons, List.not_mem_nil, false_imp_iff, implies_true, and_true] at h
  obtain ⟨hkA, hkB, hp, hq, hv, ha, hw, ht, hc1, hu, hb⟩ := h
  have h1 := line_tail hs
  have h2 := line_tail h1
  have h3 := line_tail h2
  have h4 := line_tail h3
  have h5 := line_tail h4
  have h6 := line_tail h5
  have e1 := get_unary m c hs hkA hv
  have e2 := get_binary m c h1 (not_mem_drop (by omega) hp) hv ha
  have e3 := get_unary m c h2 (not_mem_drop (by omega) hkB) hw
  have e4 := get_binary m c h3 (not_mem_drop (by omega) hq) hw ht
  have e5 := get_nullary m c h4 hc1
  have e6 := get_unary m c h5 hc1 hu
  have e7 := get_binary m c h6 (not_mem_drop (by omega) ht) hu hb
  unfold pair
  rw [e7, e6, e5, e4, e3, e2, e1, hx, hy]
  exact Prod.ext rfl (BitVec.add_assoc _ _ _)

/-! ## The arguments of the generator -/

/-- The first of two words laid side by side. -/
theorem first_word (x : BitVec 32) (b : S1.Idx → BitVec 32) (j : S_.Idx) :
    shapeCast S_ (extractStridedSlice S1 ![0] (concatenate S2 0 [⟨S1, fun _ => x⟩, ⟨S1, b⟩] Facts₀.concatenates_S1_S1_S2_d0)
      Facts₀.slices_S2_S1_0) Facts₀.shapeCasts_S1_S_ j = x := by
  unfold shapeCast extractStridedSlice
  pointwise

/-- The second of two words laid side by side. -/
theorem second_word (x : BitVec 32) (b : S1.Idx → BitVec 32) (j : S_.Idx) :
    shapeCast S_ (extractStridedSlice S1 ![1] (concatenate S2 0 [⟨S1, b⟩, ⟨S1, fun _ => x⟩] Facts₀.concatenates_S1_S1_S2_d0)
      Facts₀.slices_S2_S1_1) Facts₀.shapeCasts_S1_S_ j = x := by
  unfold shapeCast extractStridedSlice
  pointwise

/-- The high word of the key is 0. -/
theorem key_hi : get m c (.of main_v8 : TRef sig ⟨S_, .i32⟩) = fun _ => 0#32 := by
  have e0 := final_nullary m c (i := 0) rfl (by decide +kernel)
  have e1 := final_nullary m c (i := 1) rfl (by decide +kernel)
  have e2 := final_binary m c (i := 2) rfl (by decide +kernel)
  have e3 := final_unary m c (i := 3) rfl (by decide +kernel)
  have e4 := final_unary m c (i := 4) rfl (by decide +kernel)
  have e9 := final_binary m c (i := 9) rfl (by decide +kernel)
  have e10 := final_unary m c (i := 10) rfl (by decide +kernel)
  have e11 := final_reshape m c (i := 11) rfl (by decide +kernel)
  show final m c (Proc.devRef .tc main_v8) = _
  rw [e11, e10, e9, e4, e3, e2, e1, e0]
  funext j
  exact first_word (IntOp.shrui .host 42#32 32#32) _ j

/-- The low word of the key is 42. -/
theorem key_lo : get m c (.of main_v10 : TRef sig ⟨S_, .i32⟩) = fun _ => 42#32 := by
  have e0 := final_nullary m c (i := 0) rfl (by decide +kernel)
  have e5 := final_nullary m c (i := 5) rfl (by decide +kernel)
  have e6 := final_binary m c (i := 6) rfl (by decide +kernel)
  have e7 := final_unary m c (i := 7) rfl (by decide +kernel)
  have e8 := final_unary m c (i := 8) rfl (by decide +kernel)
  have e9 := final_binary m c (i := 9) rfl (by decide +kernel)
  have e12 := final_unary m c (i := 12) rfl (by decide +kernel)
  have e13 := final_reshape m c (i := 13) rfl (by decide +kernel)
  show final m c (Proc.devRef .tc main_v10) = _
  rw [e13, e12, e9, e8, e7, e6, e5, e0]
  funext j
  exact second_word (IntOp.andi 42#32 4294967295#32) _ j

/-- The row and column of an entry as one 64-bit counter. -/
theorem counter (j : S128x100000.Idx) : get m c (.of main_v17 : TRef sig ⟨S128x100000, .i64⟩) j
    = BitVec.ofNat 64 ((j 0).val * 100000 + (j 1).val) := by
  have e14 := final_nullary m c (i := 14) rfl (by decide +kernel)
  have e15 := final_nullary m c (i := 15) rfl (by decide +kernel)
  have e16 := final_nullary m c (i := 16) rfl (by decide +kernel)
  have e17 := final_unary m c (i := 17) rfl (by decide +kernel)
  have e18 := final_binary m c (i := 18) rfl (by decide +kernel)
  have e19 := final_nullary m c (i := 19) rfl (by decide +kernel)
  have e20 := final_unary m c (i := 20) rfl (by decide +kernel)
  have e21 := final_binary m c (i := 21) rfl (by decide +kernel)
  have e22 := final_binary m c (i := 22) rfl (by decide +kernel)
  show final m c (Proc.devRef .tc main_v17) j = _
  rw [e22, e21, e20, e19, e18, e17, e16, e15, e14]
  show 100000#64 * BitVec.ofNat 64 (j 0).val + 1#64 * BitVec.ofNat 64 (j 1).val = _
  apply BitVec.eq_of_toNat_eq
  have h0 : (j 0).val < 128 := (j 0).isLt
  have h1 : (j 1).val < 100000 := (j 1).isLt
  simp only [BitVec.toNat_add, BitVec.toNat_mul, BitVec.toNat_ofNat]
  omega

/-- The counter's high word is 0. -/
theorem counter_hi (j : S128x100000.Idx) : get m c (.of main_v21 : TRef sig ⟨S128x100000, .i32⟩) j = 0#32 := by
  have e23 := final_nullary m c (i := 23) rfl (by decide +kernel)
  have e24 := final_unary m c (i := 24) rfl (by decide +kernel)
  have e25 := final_binary m c (i := 25) rfl (by decide +kernel)
  have e27 := final_unary m c (i := 27) rfl (by decide +kernel)
  show final m c (Proc.devRef .tc main_v21) j = _
  rw [e27, e25, e24, e23]
  show (IntOp.shrui .host (get m c (.of main_v17 : TRef sig ⟨S128x100000, .i64⟩) j) 32#64).setWidth 32 = _
  rw [counter]
  have h0 : (j 0).val < 128 := (j 0).isLt
  have h1 : (j 1).val < 100000 := (j 1).isLt
  apply BitVec.eq_of_toNat_eq
  unfold IntOp.shrui
  rw [if_pos (by decide)]
  simp only [BitVec.toNat_setWidth, BitVec.toNat_ushiftRight, BitVec.ushiftRight_eq', BitVec.toNat_ofNat, Nat.shiftRight_eq_div_pow, Nat.reducePow,
    Nat.reduceMod]
  have hn : (j 0).val * 100000 + (j 1).val < 4294967296 := by omega
  rw [Nat.mod_eq_of_lt (hn.trans (by decide)), Nat.div_eq_of_lt hn]

/-- The counter's low word. -/
theorem counter_lo (j : S128x100000.Idx) : get m c (.of main_v20 : TRef sig ⟨S128x100000, .i32⟩) j
    = BitVec.ofNat 32 ((j 0).val * 100000 + (j 1).val) := by
  have e26 := final_unary m c (i := 26) rfl (by decide +kernel)
  show final m c (Proc.devRef .tc main_v20) j = _
  rw [e26]
  show (get m c (.of main_v17 : TRef sig ⟨S128x100000, .i64⟩) j).setWidth 32 = _
  rw [counter]
  have h0 : (j 0).val < 128 := (j 0).isLt
  have h1 : (j 1).val < 100000 := (j 1).isLt
  apply BitVec.eq_of_toNat_eq
  simp only [BitVec.toNat_setWidth, BitVec.toNat_ofNat]
  omega

/-! ## The generator -/

/-- The third key word. -/
theorem key_third : get m c main_call0.v1 = fun _ => 466689008#32 := by
  have e0 := get_binary m c (a := .of main_v8) (b := .of main_v10) (y := main_call0.v0) (f := xori) (i := 28) rfl
    (by decide +kernel) (by decide +kernel) (by decide +kernel)
  have e1 := get_nullary m c (y := main_call0.c) (i := 29) rfl (by decide +kernel)
  have e2 := get_binary m c (a := main_call0.v0) (b := main_call0.c) (y := main_call0.v1) (f := xori) (i := 30) rfl
    (by decide +kernel) (by decide +kernel) (by decide +kernel)
  rw [e2, e1, e0, key_hi, key_lo]
  funext j
  exact (by decide : IntOp.xori (IntOp.xori 0#32 42#32) 466688986#32 = 466689008#32)

/-- The pair of words the rounds start from. -/
theorem start (j : S128x100000.Idx) : pair m c main_call0.v3 main_call0.v5 j
    = (0#32, BitVec.ofNat 32 ((j 0).val * 100000 + (j 1).val) + 42#32) := by
  have e3 := get_unary m c (x := .of main_v8) (y := main_call0.v2) (i := 31) rfl (by decide +kernel) (by decide +kernel)
  have e4 := get_binary m c (a := .of main_v21) (b := main_call0.v2) (y := main_call0.v3) (f := addi) (i := 32) rfl
    (by decide +kernel) (by decide +kernel) (by decide +kernel)
  have e5 := get_unary m c (x := .of main_v10) (y := main_call0.v4) (i := 33) rfl (by decide +kernel) (by decide +kernel)
  have e6 := get_binary m c (a := .of main_v20) (b := main_call0.v4) (y := main_call0.v5) (f := addi) (i := 34) rfl
    (by decide +kernel) (by decide +kernel) (by decide +kernel)
  unfold pair
  rw [e6, e5, e4, e3, key_hi, key_lo]
  refine Prod.ext ?_ ?_
  · show get m c (.of main_v21 : TRef sig ⟨S128x100000, .i32⟩) j + 0#32 = 0#32
    rw [counter_hi]; rfl
  · show get m c (.of main_v20 : TRef sig ⟨S128x100000, .i32⟩) j + 42#32 = _
    rw [counter_lo]

/-- The generator's two results at an entry are the pair of words of the entry's counter. -/
theorem generated (j : S128x100000.Idx) : pair m c main_call0.v171 main_call0.v175 j
    = threefry (BitVec.ofNat 32 ((j 0).val * 100000 + (j 1).val)) := by
  have hk := key_third m c
  have h0 := key_hi m c
  have h1 := key_lo m c
  have r1 : pair m c main_call0.v6 main_call0.v12 j = _ := pair_round m c 35 rfl (by decide +kernel) j
  have r2 : pair m c main_call0.v13 main_call0.v19 j = _ := pair_round m c 44 rfl (by decide +kernel) j
  have r3 : pair m c main_call0.v20 main_call0.v26 j = _ := pair_round m c 53 rfl (by decide +kernel) j
  have r4 : pair m c main_call0.v27 main_call0.v33 j = _ := pair_round m c 62 rfl (by decide +kernel) j
  have i1 : pair m c main_call0.v35 main_call0.v39 j = _ := pair_inject m c 71 rfl (by decide +kernel) h1 hk j
  have r5 : pair m c main_call0.v40 main_call0.v46 j = _ := pair_round m c 78 rfl (by decide +kernel) j
  have r6 : pair m c main_call0.v47 main_call0.v53 j = _ := pair_round m c 87 rfl (by decide +kernel) j
  have r7 : pair m c main_call0.v54 main_call0.v60 j = _ := pair_round m c 96 rfl (by decide +kernel) j
  have r8 : pair m c main_call0.v61 main_call0.v67 j = _ := pair_round m c 105 rfl (by decide +kernel) j
  have i2 : pair m c main_call0.v69 main_call0.v73 j = _ := pair_inject m c 114 rfl (by decide +kernel) hk h0 j
  have r9 : pair m c main_call0.v74 main_call0.v80 j = _ := pair_round m c 121 rfl (by decide +kernel) j
  have r10 : pair m c main_call0.v81 main_call0.v87 j = _ := pair_round m c 130 rfl (by decide +kernel) j
  have r11 : pair m c main_call0.v88 main_call0.v94 j = _ := pair_round m c 139 rfl (by decide +kernel) j
  have r12 : pair m c main_call0.v95 main_call0.v101 j = _ := pair_round m c 148 rfl (by decide +kernel) j
  have i3 : pair m c main_call0.v103 main_call0.v107 j = _ := pair_inject m c 157 rfl (by decide +kernel) h0 h1 j
  have r13 : pair m c main_call0.v108 main_call0.v114 j = _ := pair_round m c 164 rfl (by decide +kernel) j
  have r14 : pair m c main_call0.v115 main_call0.v121 j = _ := pair_round m c 173 rfl (by decide +kernel) j
  have r15 : pair m c main_call0.v122 main_call0.v128 j = _ := pair_round m c 182 rfl (by decide +kernel) j
  have r16 : pair m c main_call0.v129 main_call0.v135 j = _ := pair_round m c 191 rfl (by decide +kernel) j
  have i4 : pair m c main_call0.v137 main_call0.v141 j = _ := pair_inject m c 200 rfl (by decide +kernel) h1 hk j
  have r17 : pair m c main_call0.v142 main_call0.v148 j = _ := pair_round m c 207 rfl (by decide +kernel) j
  have r18 : pair m c main_call0.v149 main_call0.v155 j = _ := pair_round m c 216 rfl (by decide +kernel) j
  have r19 : pair m c main_call0.v156 main_call0.v162 j = _ := pair_round m c 225 rfl (by decide +kernel) j
  have r20 : pair m c main_call0.v163 main_call0.v169 j = _ := pair_round m c 234 rfl (by decide +kernel) j
  have i5 : pair m c main_call0.v171 main_call0.v175 j = _ := pair_inject m c 243 rfl (by decide +kernel) hk h0 j
  rw [i5, r20, r19, r18, r17, i4, r16, r15, r14, r13, i3, r12, r11, r10, r9, i2, r8, r7, r6, r5, i1, r4, r3, r2, r1, start]
  rfl

end Cert.ReferenceIdeal.Sample

end
-- ==== Proof.RefValue.lean ====
module

public import proofs.«01_k».proof.Proof.RefBits
public import proofs.«01_k».proof.Proof.First

@[expose] public section

/-! # The scores of the reference

The reference's scores are the noise of the random words plus the logits, and its result is its search over them. -/

noncomputable section

namespace Cert.ReferenceIdeal.Sample

open Idealize.ShloMosaic Idealize.ShloMosaic.TcCoe Idealize.SL.Sem Idealize.ShloMosaic.StableHlo Cert.ReferenceIdeal Cert.Sample

attribute [local instance] Cert.ReferenceIdeal.Gen.facts

section Values

variable {F : FTy → Type} [FloatOps F] (m : (ℓ : Loc nD τ sig) → Buf (Elt F) ℓ) (c : Dev nD)

/-- The words drawn: each entry holds the word of its counter. -/
theorem drawn (j : S128x100000.Idx) : get m c (.of main_v23 : TRef sig ⟨S128x100000, .i32⟩) j
    = word (BitVec.ofNat 32 ((j 0).val * 100000 + (j 1).val)) := by
  have e := final_binary m c (i := 250) rfl (by decide +kernel)
  show final m c (Proc.devRef .tc main_v23) j = _
  rw [e]
  have g := generated m c j
  unfold word
  rw [← g]
  rfl

/-- The words read as floats: the drawn word's top 23 bits as fraction. -/
theorem float_word (j : S128x100000.Idx) : get m c (.of main_v27 : TRef sig ⟨S128x100000, .i32⟩) j
    = floatWord (BitVec.ofNat 32 ((j 0).val * 100000 + (j 1).val)) := by
  have e1 := final_nullary m c (i := 251) rfl (by decide +kernel)
  have e2 := final_unary m c (i := 252) rfl (by decide +kernel)
  have e3 := final_binary m c (i := 253) rfl (by decide +kernel)
  have e4 := final_nullary m c (i := 254) rfl (by decide +kernel)
  have e5 := final_unary m c (i := 255) rfl (by decide +kernel)
  have e6 := final_binary m c (i := 256) rfl (by decide +kernel)
  show final m c (Proc.devRef .tc main_v27) j = _
  rw [e6, e5, e4, e3, e2, e1]
  unfold floatWord
  rw [← drawn m c j, shrui_unit .vector .host]
  rfl

/-- The Gumbel noise of a float word, in the reference's operations. -/
def noiseOf (w : BitVec 32) : F .f32 :=
  FloatOps.hostNegf (FloatOps.hostUnary .log (FloatOps.hostNegf (FloatOps.hostUnary .log (FloatOps.maximumf
    (FloatOps.subf (FloatOps.ofBits .f32 w) (FloatOps.ofBits .f32 1065353216#32)) (FloatOps.ofBits .f32 8388608#32)))))

/-- The scores: noise plus logit. -/
theorem scores (j : S128x100000.Idx) : get m c (.of main_v37 : TRef sig ⟨S128x100000, .f32⟩) j
    = FloatOps.addf (noiseOf (floatWord (BitVec.ofNat 32 ((j 0).val * 100000 + (j 1).val)))) (m (c.tc.loc main_arg0) j) := by
  have e1 := final_unary m c (i := 257) rfl (by decide +kernel)
  have e2 := final_nullary m c (i := 258) rfl (by decide +kernel)
  have e3 := final_unary m c (i := 259) rfl (by decide +kernel)
  have e4 := final_binary m c (i := 260) rfl (by decide +kernel)
  have e5 := final_nullary m c (i := 261) rfl (by decide +kernel)
  have e6 := final_unary m c (i := 262) rfl (by decide +kernel)
  have e7 := final_binary m c (i := 263) rfl (by decide +kernel)
  have e8 := final_unary m c (i := 264) rfl (by decide +kernel)
  have e9 := final_unary m c (i := 265) rfl (by decide +kernel)
  have e10 := final_unary m c (i := 266) rfl (by decide +kernel)
  have e11 := final_unary m c (i := 267) rfl (by decide +kernel)
  have e12 := final_binary m c (i := 268) rfl (by decide +kernel)
  show final m c (Proc.devRef .tc main_v37) j = _
  rw [e12, e11, e10, e9, e8, e7, e6, e5, e4, e3, e2, e1, final_arg]
  unfold noiseOf
  rw [← float_word m c j]
  rfl

/-- What the search of the rows runs over and starts from. -/
theorem searched : get m c (.of main_v38 : TRef sig ⟨S128, .i32⟩) = fun j =>
    (Host.argReduce reducer_argmax_f32_i32 (F := F) (φ := .f32) (get m c (.of main_v37 : TRef sig ⟨S128x100000, .f32⟩)) (iotaInDim S128x100000 32 1)
      (constant S_ .f32 0xFF800000#32) (constantI S_ 32 0#32) Facts₀.reducesTo_S128x100000_S128_d1 Facts₀.h_S_ j).2 := by
  have e1 := final_nullary m c (i := 269) rfl (by decide +kernel)
  have e2 := final_nullary m c (i := 270) rfl (by decide +kernel)
  have e3 := final_nullary m c (i := 271) rfl (by decide +kernel)
  have e4 := final_quaternary m c (i := 273) rfl (by decide +kernel)
  show final m c (Proc.devRef .tc main_v38) = _
  rw [e4]
  rw [e1, e2, e3]
  rfl

end Values

end Cert.ReferenceIdeal.Sample

end
-- ==== Proof.RefArgmax.lean ====
module

public import proofs.«01_k».proof.Proof.RefValue

@[expose] public section

/-! # The search of the reference

The reference folds a body over each row's scores and places: of two pairs the body keeps the larger score, and of two
equal scores the earlier place.  So it returns the first place of the row's largest score. -/

noncomputable section

namespace Cert.ReferenceIdeal.Sample

open Idealize.ShloMosaic Idealize.ShloMosaic.TcCoe Idealize.SL.Sem Idealize.ShloMosaic.StableHlo Cert.ReferenceIdeal Cert.Sample

attribute [local instance] Cert.ReferenceIdeal.Gen.facts

/-- A pair of the search, its place read as an integer. -/
def placed (p : EReal × BitVec 32) : EReal × ℤ := (p.1, p.2.toInt)

/-- The body of the search keeps the better pair. -/
theorem body_better (a b : EReal × BitVec 32) : placed (reducer_argmax_f32_i32 (F := Ideal) a b) = better (placed a) (placed b) := by
  have e : reducer_argmax_f32_i32 (F := Ideal) a b
      = (Scalar.select (IntOp.ori (Ideal.cmp .ogt a.1 b.1) (Ideal.cmp .une a.1 a.1)) a.1 b.1,
        Scalar.select (IntOp.ori (IntOp.ori (Ideal.cmp .ogt a.1 b.1) (Ideal.cmp .une a.1 a.1))
          (IntOp.andi (Ideal.cmp .oeq a.1 b.1) (IntOp.cmpi .slt a.2 b.2))) a.2 b.2) := rfl
  rw [e, show IntOp.cmpi .slt a.2 b.2 = BitVec.ofBool (decide (a.2.toInt < b.2.toInt)) from rfl]
  unfold placed better Ideal.cmp Scalar.select
  by_cases h1 : b.1 < a.1
  · have h2 : ¬ a.1 = b.1 := h1.ne'
    by_cases h3 : a.2.toInt < b.2.toInt <;> simp [h1, h2, h3, IntOp.ori, IntOp.andi]
  · by_cases h2 : a.1 = b.1
    · by_cases h3 : a.2.toInt < b.2.toInt <;> simp [h2, h3, IntOp.ori, IntOp.andi]
    · by_cases h3 : a.2.toInt < b.2.toInt <;> simp [h1, h2, h3, IntOp.ori, IntOp.andi]

/-- A place below 100000, as a word read as an integer. -/
theorem toInt_place {k : ℕ} (hk : k < 100000) : (BitVec.ofNat 32 k).toInt = k := by
  have e : (BitVec.ofNat 32 k).toNat = k := by rw [BitVec.toNat_ofNat]; exact Nat.mod_eq_of_lt (by omega)
  rw [BitVec.toInt_eq_toNat_of_lt (by omega), e]

/-- The fold of the body from `(-∞, 0)` over a list of the values and places of a row, in any order, returns the first place of
    the row's largest value. -/
theorem fold_first (f : ℕ → EReal) (L : List (EReal × BitVec 32)) (hL : ∀ q, q ∈ L ↔ ∃ k, k < 100000 ∧ q = (f k, BitVec.ofNat 32 k)) :
    ∃ k, First f 0 100000 k ∧ (L.foldl (reducer_argmax_f32_i32 (F := Ideal)) (⊥, 0#32)).2 = BitVec.ofNat 32 k := by
  have hv : placed (L.foldl (reducer_argmax_f32_i32 (F := Ideal)) (⊥, 0#32)) = (L.map placed).foldl better (⊥, 0) := by
    rw [List.foldl_map]
    exact (List.foldl_hom placed (fun a b => (body_better a b).symm)).symm
  have hmem : ∀ q, q ∈ L.map placed ↔ ∃ k, k < 100000 ∧ q = (f k, (k : ℤ)) := fun q => by
    rw [List.mem_map]
    constructor
    · rintro ⟨p, hp, rfl⟩
      obtain ⟨k, hk, rfl⟩ := (hL p).mp hp
      exact ⟨k, hk, Prod.ext rfl (toInt_place hk)⟩
    · rintro ⟨k, hk, rfl⟩
      exact ⟨_, (hL _).mpr ⟨k, hk, rfl⟩, Prod.ext rfl (toInt_place hk)⟩
  generalize L.foldl (reducer_argmax_f32_i32 (F := Ideal)) (⊥, 0#32) = p at hv ⊢
  obtain ⟨k, hk, hpk⟩ : ∃ k, k < 100000 ∧ placed p = (f k, (k : ℤ)) := by
    rcases foldl_better_mem (L.map placed) (⊥, 0) with h | h
    · have h0 := (foldl_better_leads (L.map placed) (⊥, 0)).2 _ ((hmem _).mpr ⟨0, by norm_num, rfl⟩)
      rw [h] at h0
      exact ⟨0, by norm_num, by rw [hv, h]; exact Prod.ext (le_bot_iff.mp h0.1).symm rfl⟩
    · rw [← hv, hmem] at h; exact h
  refine ⟨k, ⟨Nat.zero_le _, hk, fun l _ hl => ?_⟩, ?_⟩
  · have h := (foldl_better_leads (L.map placed) (⊥, 0)).2 _ ((hmem _).mpr ⟨l, hl, rfl⟩)
    rw [← hv, hpk] at h
    exact ⟨h.1, fun e => Int.ofNat_le.mp (h.2 e)⟩
  · have e : (placed p).2 = (BitVec.ofNat 32 k).toInt := by rw [hpk, toInt_place hk]
    exact BitVec.eq_of_toInt_eq e

/-- The entries the search of row `j` runs over are the row's. -/
theorem drop_iff (i : S128x100000.Idx) (j : S128.Idx) :
    (Facts₀.reducesTo_S128x100000_S128_d1 : S128x100000.ReducesTo [1] S128).drop i = j ↔ i 0 = j 0 := by
  constructor
  · rintro rfl; rfl
  · intro h
    funext b
    match b with
    | ⟨0, _⟩ => exact Fin.ext (congrArg Fin.val h)

/-- The pairs the search of row `j` runs over. -/
theorem mem_pairs (x : S128x100000.Idx → EReal) (y : S128x100000.Idx → BitVec 32) (j : S128.Idx) (q : EReal × BitVec 32) :
    q ∈ Host.argReduceFiber x y (Facts₀.reducesTo_S128x100000_S128_d1 : S128x100000.ReducesTo [1] S128) j
      ↔ ∃ i : S128x100000.Idx, i 0 = j 0 ∧ q = (x i, y i) := by
  unfold Host.argReduceFiber
  simp only [List.mem_map, List.mem_filter, List.mem_finRange, true_and, decide_eq_true_eq, drop_iff]
  constructor
  · rintro ⟨n, hn, rfl⟩; exact ⟨_, hn, rfl⟩
  · rintro ⟨i, hi, rfl⟩
    exact ⟨S128x100000.rowMajor i, by rw [Equiv.symm_apply_apply]; exact hi, by rw [Equiv.symm_apply_apply]⟩

/-- The value the search starts from is `-∞`. -/
theorem start_value : Ideal.ofBits .f32 0xFF800000#32 = ⊥ := by simp [Ideal.ofBits, Ideal.ieee]

/-- The search of row `j` of an array `x` returns the first place of the row's largest value. -/
theorem argmax_first (x : S128x100000.Idx → EReal) (j : S128.Idx) (f : ℕ → EReal)
    (hf : ∀ i : S128x100000.Idx, i 0 = j 0 → x i = f (i 1).val) :
    ∃ k, First f 0 100000 k ∧ (Host.argReduce reducer_argmax_f32_i32 (F := Ideal) (φ := .f32) x (iotaInDim S128x100000 32 1)
      (constant S_ .f32 0xFF800000#32) (constantI S_ 32 0#32) Facts₀.reducesTo_S128x100000_S128_d1 Facts₀.h_S_ j).2 = BitVec.ofNat 32 k := by
  rw [Ideal.argReduce_eq_reduce2, Host.reduce2_eq_foldl_fiber]
  have h := fold_first f (Host.argReduceFiber x (iotaInDim S128x100000 32 1) Facts₀.reducesTo_S128x100000_S128_d1 j) (fun q => by
    rw [mem_pairs]
    constructor
    · rintro ⟨i, hi, rfl⟩
      exact ⟨(i 1).val, (i 1).isLt, Prod.ext (hf i hi) rfl⟩
    · rintro ⟨k, hk, rfl⟩
      exact ⟨ValueIdx.ix2 (j 0) ⟨k, hk⟩, rfl, Prod.ext (hf (ValueIdx.ix2 (j 0) ⟨k, hk⟩) rfl).symm rfl⟩)
  rw [← start_value] at h
  generalize Host.argReduceFiber x (iotaInDim S128x100000 32 1) Facts₀.reducesTo_S128x100000_S128_d1 j = L at h ⊢
  exact h

variable (m : (ℓ : Loc nD τ sig) → Buf (Elt Ideal) ℓ) (c : Dev nD)

/-- The reference's operations compute the noise. -/
theorem noiseOf_eq (n : BitVec 32) : noiseOf (F := Ideal) (floatWord n) = noise n := rfl

/-- The reference's result at each row: the first place of the row's largest score. -/
theorem result_first (j : S128.Idx) : ∃ k, First (score (m (c.tc.loc main_arg0)) (j 0)) 0 100000 k
    ∧ final m c (Proc.devRef .tc main_v38) j = BitVec.ofNat 32 k := by
  rw [show final m c (Proc.devRef .tc main_v38) j = _ from congrFun (searched m c) j]
  refine argmax_first (get m c (.of main_v37 : TRef sig ⟨S128x100000, .f32⟩)) j (score (m (c.tc.loc main_arg0)) (j 0)) fun i hi => ?_
  have h1 : (i 1).val < 100000 := (i 1).isLt
  rw [scores, noiseOf_eq]
  unfold score
  rw [dif_pos h1, ← hi]
  refine congrArg (fun y => noise _ + m (c.tc.loc main_arg0) y) ?_
  funext a
  match a with
  | ⟨0, _⟩ => rfl
  | ⟨1, _⟩ => rfl

end Cert.ReferenceIdeal.Sample

end
-- ==== Proof.Equation.lean ====
module

public import proofs.«01_k».proof.Proof.Sampled
public import proofs.«01_k».proof.Proof.RefArgmax

@[expose] public section

/-! # The equation

Both programs end with the first place of each row's largest score, which is unique. -/

noncomputable section

namespace Cert.Sample

open Idealize.ShloMosaic Idealize.ShloMosaic.TcCoe Idealize.SL.Sem

attribute [local instance] Cert.KernelIdeal.Gen.facts Cert.ReferenceIdeal.Gen.facts

/-- On equal logits the reference's result is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Sample.final m' c (Proc.devRef .tc Cert.ReferenceIdeal.main_v38) = Cert.KernelIdeal.Sample.sampled m c := by
  funext j
  obtain ⟨k, hk, hv⟩ := Cert.ReferenceIdeal.Sample.result_first m' c j
  obtain ⟨l, hl, hw⟩ := Cert.KernelIdeal.Sample.sampled_first m c j
  rw [h] at hk
  exact hv.trans ((congrArg (BitVec.ofNat 32) (hk.unique hl)).trans hw.symm)

/-- The reference runs, leaves its argument as it was and every semaphore at zero. -/
theorem frame_reference : Cert.quiescent_ReferenceIdeal := fun m g _ =>
  (θ_run Cert.ReferenceIdeal.defs _ _).mono
    (fun r h => ⟨fun c => (h.1 c _).trans (Cert.ReferenceIdeal.Sample.final_arg m c), h.2⟩)
    (Cert.ReferenceIdeal.Sample.run (F := Ideal) m g)

/-- From equal logits the kernel and the reference end with equal results. -/
theorem equal : Cert.algebraic_KernelIdeal_ReferenceIdeal := fun m g m' g' _ h =>
  ⟨fun c => Cert.KernelIdeal.Sample.sampled m c,
    (θ_run Cert.KernelIdeal.defs _ _).mono (fun _ h => h.1) (Cert.KernelIdeal.Sample.run (F := Ideal) m g),
    (θ_run Cert.ReferenceIdeal.defs _ _).mono
      (fun _ e c => ⟨(e.1 c _).trans (result_eq m m' c (h c)), (e.1 c _).trans (Cert.ReferenceIdeal.Sample.final_arg m' c)⟩)
      (Cert.ReferenceIdeal.Sample.run (F := Ideal) m' g')⟩

end Cert.Sample

end
-- ==== Proof.lean ====
module

public import proofs.«01_k».proof.Defs
public import proofs.«01_k».proof.Proof.KernelFrame
public import proofs.«01_k».proof.Proof.Equation

@[expose] public section

/-! # The proof of `Cert.Claim`

The kernel and the reference run and leave their argument and semaphores as they were; no operation was rewritten; and
on equal logits the two results are equal. -/

noncomputable section

namespace Cert.Proof

/-- Everything the certificate claims. -/
theorem claim : Cert.Claim :=
  ⟨Cert.Kernel.Gen.facts, Cert.KernelIdeal.Gen.facts, Cert.ReferenceIdeal.Gen.facts,
    Cert.Kernel.Sample.frame, Cert.Kernel.Sample.frame_ideal, Cert.Sample.frame_reference, trivial, Cert.Sample.equal⟩

end Cert.Proof

end
